-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S8x32x256 : Shape := ⟨3, ![8, 32, 256]⟩
abbrev S16x32x256 : Shape := ⟨3, ![16, 32, 256]⟩
abbrev S16 : Shape := ⟨1, ![16]⟩
abbrev S_ : Shape := ⟨0, ![]⟩
abbrev S1 : Shape := ⟨1, ![1]⟩
abbrev S1x32x256 : Shape := ⟨3, ![1, 32, 256]⟩
abbrev S32x256 : Shape := ⟨2, ![32, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S8x32x256, .f32⟩
  | .local _ .vmem, ⟨3, _⟩ => ⟨S16x32x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v17 : BitVec 32 := Scalar.muli v2 c2_i32_15
  let v18 : BitVec 32 := Scalar.addi c0_i32_16 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_17 : BitVec 32 := 1#32
  let v19 : BitVec 32 := Scalar.muli v6 c1_i32_17
  let v20 : BitVec 32 := Scalar.addi v18 v19
  v20.toNat
def k0_dev4 (d0 : Dev nD) : Nat :=
  let c0_i32_26 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_25 : BitVec 32 := 2#32
  let v28 : BitVec 32 := Scalar.muli v7 c2_i32_25
  let v29 : BitVec 32 := Scalar.addi c0_i32_26 v28
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v30 : BitVec 32 := Scalar.muli v5 c1_i32_27
  let v31 : BitVec 32 := Scalar.addi v29 v30
  v31.toNat
def k0_dev5 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v39 : BitVec 32 := Scalar.muli v2 c2_i32_34
  let v40 : BitVec 32 := Scalar.addi c0_i32_35 v39
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_36 : BitVec 32 := 1#32
  let v41 : BitVec 32 := Scalar.muli v6 c1_i32_36
  let v42 : BitVec 32 := Scalar.addi v40 v41
  v42.toNat
def k0_dev6 (d0 : Dev nD) : Nat :=
  let c0_i32_43 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_42 : BitVec 32 := 2#32
  let v50 : BitVec 32 := Scalar.muli v7 c2_i32_42
  let v51 : BitVec 32 := Scalar.addi c0_i32_43 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v52 : BitVec 32 := Scalar.muli v5 c1_i32_44
  let v53 : BitVec 32 := Scalar.addi v51 v52
  v53.toNat
def k0_dev7 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v61 : BitVec 32 := Scalar.muli v2 c2_i32_50
  let v62 : BitVec 32 := Scalar.addi c0_i32_51 v61
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v63 : BitVec 32 := Scalar.muli v6 c1_i32_52
  let v64 : BitVec 32 := Scalar.addi v62 v63
  v64.toNat
def k0_dev8 (d0 : Dev nD) : Nat :=
  let c0_i32_59 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_58 : BitVec 32 := 2#32
  let v72 : BitVec 32 := Scalar.muli v7 c2_i32_58
  let v73 : BitVec 32 := Scalar.addi c0_i32_59 v72
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v74 : BitVec 32 := Scalar.muli v5 c1_i32_60
  let v75 : BitVec 32 := Scalar.addi v73 v74
  v75.toNat
def k0_dev9 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v83 : BitVec 32 := Scalar.muli v2 c2_i32_66
  let v84 : BitVec 32 := Scalar.addi c0_i32_67 v83
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v85 : BitVec 32 := Scalar.muli v6 c1_i32_68
  let v86 : BitVec 32 := Scalar.addi v84 v85
  v86.toNat
def k0_dev10 (d0 : Dev nD) : Nat :=
  let c0_i32_75 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_74 : BitVec 32 := 2#32
  let v94 : BitVec 32 := Scalar.muli v7 c2_i32_74
  let v95 : BitVec 32 := Scalar.addi c0_i32_75 v94
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v96 : BitVec 32 := Scalar.muli v5 c1_i32_76
  let v97 : BitVec 32 := Scalar.addi v95 v96
  v97.toNat
def k0_dev11 (d0 : Dev nD) : Nat :=
  let c0_i32_101 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_100 : BitVec 32 := 2#32
  let v122 : BitVec 32 := Scalar.muli v7 c2_i32_100
  let v123 : BitVec 32 := Scalar.addi c0_i32_101 v122
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v124 : BitVec 32 := Scalar.muli v5 c1_i32_102
  let v125 : BitVec 32 := Scalar.addi v123 v124
  v125.toNat
def k0_dev12 (d0 : Dev nD) : Nat :=
  let c0_i32_127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_126 : BitVec 32 := 2#32
  let v151 : BitVec 32 := Scalar.muli v2 c2_i32_126
  let v152 : BitVec 32 := Scalar.addi c0_i32_127 v151
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_128 : BitVec 32 := 1#32
  let v153 : BitVec 32 := Scalar.muli v6 c1_i32_128
  let v154 : BitVec 32 := Scalar.addi v152 v153
  v154.toNat
def k0_dev13 (d0 : Dev nD) : Nat :=
  let c0_i32_153 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_152 : BitVec 32 := 2#32
  let v180 : BitVec 32 := Scalar.muli v7 c2_i32_152
  let v181 : BitVec 32 := Scalar.addi c0_i32_153 v180
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_154 : BitVec 32 := 1#32
  let v182 : BitVec 32 := Scalar.muli v5 c1_i32_154
  let v183 : BitVec 32 := Scalar.addi v181 v182
  v183.toNat
def k0_dev14 (d0 : Dev nD) : Nat :=
  let c0_i32_179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_178 : BitVec 32 := 2#32
  let v209 : BitVec 32 := Scalar.muli v2 c2_i32_178
  let v210 : BitVec 32 := Scalar.addi c0_i32_179 v209
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_180 : BitVec 32 := 1#32
  let v211 : BitVec 32 := Scalar.muli v6 c1_i32_180
  let v212 : BitVec 32 := Scalar.addi v210 v211
  v212.toNat
def k0_dev15 (d0 : Dev nD) : Nat :=
  let c0_i32_205 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_204 : BitVec 32 := 2#32
  let v238 : BitVec 32 := Scalar.muli v7 c2_i32_204
  let v239 : BitVec 32 := Scalar.addi c0_i32_205 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_206 : BitVec 32 := 1#32
  let v240 : BitVec 32 := Scalar.muli v5 c1_i32_206
  let v241 : BitVec 32 := Scalar.addi v239 v240
  v241.toNat
def k0_dev16 (d0 : Dev nD) : Nat :=
  let c0_i32_231 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_230 : BitVec 32 := 2#32
  let v267 : BitVec 32 := Scalar.muli v2 c2_i32_230
  let v268 : BitVec 32 := Scalar.addi c0_i32_231 v267
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_232 : BitVec 32 := 1#32
  let v269 : BitVec 32 := Scalar.muli v6 c1_i32_232
  let v270 : BitVec 32 := Scalar.addi v268 v269
  v270.toNat
def k0_dev17 (d0 : Dev nD) : Nat :=
  let c0_i32_257 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_256 : BitVec 32 := 2#32
  let v296 : BitVec 32 := Scalar.muli v7 c2_i32_256
  let v297 : BitVec 32 := Scalar.addi c0_i32_257 v296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_258 : BitVec 32 := 1#32
  let v298 : BitVec 32 := Scalar.muli v5 c1_i32_258
  let v299 : BitVec 32 := Scalar.addi v297 v298
  v299.toNat
def k0_dev18 (d0 : Dev nD) : Nat :=
  let c0_i32_283 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_282 : BitVec 32 := 2#32
  let v325 : BitVec 32 := Scalar.muli v2 c2_i32_282
  let v326 : BitVec 32 := Scalar.addi c0_i32_283 v325
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_284 : BitVec 32 := 1#32
  let v327 : BitVec 32 := Scalar.muli v6 c1_i32_284
  let v328 : BitVec 32 := Scalar.addi v326 v327
  v328.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩
abbrev S2x256x2x256 : Shape := ⟨4, ![2, 256, 2, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S2x256x2x256, .f32⟩
  | .hbm, ⟨2, _⟩ => ⟨S_, .f32⟩
  | .hbm, ⟨3, _⟩ => ⟨S256x256, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Geom.lean ====
/-
# The mesh, the buffers and the values

The four devices form a 2×2 mesh: device `c` is at row `c / 2`, column `c % 2`. `nb false c` is the other device of
its row, `nb true c` the other device of its column. The kernel cuts every 256×256 block into eight chunks of 32 rows.
It makes sixteen transfers per device, numbered 0 to 15: transfer `lo k` (that is `k`) sends chunk `k` of the device's block of
`x` to one neighbour, transfer `hi k` (that is `k + 8`) sends the partial sum of chunk `k` to the other. Transfer `j` lands in slot `j` of
the neighbour's landing buffer, and counts on semaphore `j` of the sender's send array and of the receiver's receive array.

This module names these things, and the value that each slot, partial sum and chunk of the result holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.MemrefSat
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices and transfers -/

set_option backward.proofsInPublic true in
/-- The other device of `c`'s row (`false`) or of its column (`true`). -/
def nb (d : Bool) (c : Dev nD) : Dev nD :=
  if d then ⟨((c.val % 2) + 2) - 2 * (c.val / 2), by have := c.isLt; have : nD = 4 := rfl; omega⟩
  else ⟨(2 * (c.val / 2) + 1) - (c.val % 2), by have := c.isLt; have : nD = 4 := rfl; omega⟩

theorem nb_nb (d : Bool) (c : Dev nD) : nb d (nb d c) = c := by revert d c; decide
theorem nb_ne (c : Dev nD) : nb false c ≠ nb true c := by revert c; decide

/-- A neighbour relation, as a permutation of the devices. -/
def nbPerm (d : Bool) : Dev nD ≃ Dev nD := ⟨nb d, nb d, nb_nb d, nb_nb d⟩

/-- The transfer of chunk `k` of `x`, and the transfer of chunk `k`'s partial sum. -/
def lo (k : Fin 8) : Fin 16 := ⟨k.val, by omega⟩
def hi (k : Fin 8) : Fin 16 := ⟨k.val + 8, by omega⟩

/-- Which neighbour transfer `j` goes to: even chunks go along the row first, odd chunks along the column first, and each
    partial sum goes the other way. -/
def side (j : Fin 16) : Bool := decide (j.val % 2 = 0) != decide (j.val < 8)

/-- The device at the other end of transfer `j` — the one `c` sends it to, and the one `c` receives it from. -/
def peer (j : Fin 16) (c : Dev nD) : Dev nD := nb (side j) c
theorem peer_peer (j : Fin 16) (c : Dev nD) : peer j (peer j c) = c := nb_nb _ _

/-! ## The buffers and their parts -/

abbrev xM : Memref sig .tc .vmem S256x256 .f32 := Memref.whole cc0_stg0_0
abbrev oM : Memref sig .tc .vmem S256x256 .f32 := Memref.whole cc0_stg1_0
abbrev pM : Memref sig .tc .vmem S8x32x256 .f32 := Memref.whole cc0_scratch0
abbrev qM : Memref sig .tc .vmem S16x32x256 .f32 := Memref.whole cc0_scratch1

set_option backward.proofsInPublic true in
/-- The rows of chunk `k` of a 256×256 block, -/
abbrev xR (k : Fin 8) : Rect S256x256 :=
  Rect.unit (s := S256x256) ![32 * k.val, 0] S32x256.size (fun a => by
    have := k.isLt; match a with
    | 0 => show 32 * k.val + 32 ≤ 256; omega
    | 1 => exact le_rfl)
set_option backward.proofsInPublic true in
/-- partial sum `k` in its buffer, -/
abbrev pR (k : Fin 8) : Rect S8x32x256 :=
  Rect.unit (s := S8x32x256) ![k.val, 0, 0] S1x32x256.size (fun a => by
    have := k.isLt; match a with
    | 0 => show k.val + 1 ≤ 8; omega
    | 1 => exact le_rfl
    | 2 => exact le_rfl)
set_option backward.proofsInPublic true in
/-- slot `j` in the landing buffer. -/
abbrev qR (j : Fin 16) : Rect S16x32x256 :=
  Rect.unit (s := S16x32x256) ![j.val, 0, 0] S1x32x256.size (fun a => by
    have := j.isLt; match a with
    | 0 => show j.val + 1 ≤ 16; omega
    | 1 => exact le_rfl
    | 2 => exact le_rfl)

abbrev xC (k : Fin 8) : Memref sig .tc .vmem S32x256 .f32 := xM.slice (xR k) (fun _ => rfl)
abbrev oC (k : Fin 8) : Memref sig .tc .vmem S32x256 .f32 := oM.slice (xR k) (fun _ => rfl)
abbrev pS (k : Fin 8) : Memref sig .tc .vmem S1x32x256 .f32 := pM.slice (pR k) (fun _ => rfl)
abbrev qS (j : Fin 16) : Memref sig .tc .vmem S1x32x256 .f32 := qM.slice (qR j) (fun _ => rfl)
abbrev pC (k : Fin 8) : Memref sig .tc .vmem S32x256 .f32 := (pS k).squeeze S32x256 squeezes_S1x32x256_S32x256
abbrev qC (j : Fin 16) : Memref sig .tc .vmem S32x256 .f32 := (qS j).squeeze S32x256 squeezes_S1x32x256_S32x256

/-! ## Semaphores -/

/-- The barrier semaphore; transfer `j`'s send and receive semaphores. -/
abbrev barS : Sem sig := (SemArray.scalar (sig.barrier 0 rfl) : Sems sig S_).sem
set_option backward.proofsInPublic true in
def sS (j : Fin 16) : DmaSem sig := (⟨2 + j.val, by omega⟩ : Fin 34)
set_option backward.proofsInPublic true in
def rS (j : Fin 16) : DmaSem sig := (⟨18 + j.val, by omega⟩ : Fin 34)

abbrev barCell (c : Dev nD) : GSem nD τ sig := ((c : Thread nD τ), .reg barS)
abbrev sCell (c : Dev nD) (j : Fin 16) : GSem nD τ sig := ((c : Thread nD τ), .dma (sS j))
abbrev rCell (c : Dev nD) (j : Fin 16) : GSem nD τ sig := ((c : Thread nD τ), .dma (rS j))

/-- The credit that a transfer of one chunk counts for. -/
abbrev N : ℕ := (qC 0).view.dmaCredit
theorem N_pos : 0 < N := View.dmaCredit_pos _ (by decide)

/-! ## The values -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as fetched, -/
def xstg (c : Dev nD) : (cc0_stg0_0 : Ref sig .tc).ty.Contents (Elt F) :=
  (win0_0.blk (0 : Fin 1)).view.read (Elt F) ((s₀ m ρ).mem ((c : Thread nD τ).loc main_arg0))
/-- its chunk `k`, -/
def xv (c : Dev nD) (k : Fin 8) : FVec F S32x256 .f32 := fun i => xstg m ρ c ((xR k).emb i)
/-- the partial sum of chunk `k`: its own chunk and the first neighbour's, -/
def pv (c : Dev nD) (k : Fin 8) : FVec F S32x256 .f32 := addf (xv m ρ c k) (xv m ρ (peer (lo k) c) k)
/-- the result's chunk `k`: its own partial sum and the second neighbour's. -/
def ov (c : Dev nD) (k : Fin 8) : FVec F S32x256 .f32 := addf (pv m ρ c k) (pv m ρ (peer (hi k) c) k)

/-- What device `c` sends in transfer `j`. -/
def sv (c : Dev nD) (j : Fin 16) : FVec F S32x256 .f32 :=
  if h : j.val < 8 then xv m ρ c ⟨j.val, h⟩ else pv m ρ c ⟨j.val - 8, by omega⟩
theorem sv_lo (c : Dev nD) (k : Fin 8) : sv m ρ c (lo k) = xv m ρ c k := dif_pos k.isLt
theorem sv_hi (c : Dev nD) (k : Fin 8) : sv m ρ c (hi k) = pv m ρ c k := by
  unfold sv; rw [dif_neg (show ¬ (hi k).val < 8 by show ¬ k.val + 8 < 8; omega)]
  exact congrArg (pv m ρ c) (Fin.ext (show k.val + 8 - 8 = k.val by omega))

/-! ## The chunks are disjoint and cover their buffer -/

theorem xR_disj (k k' : Fin 8) (h : k ≠ k') : Disjoint (xR k).set (xR k').set := by
  have : k.val ≠ k'.val := fun e => h (Fin.ext e)
  refine Rect.unit_disjoint 0 ?_
  show 32 * k.val + 32 ≤ 32 * k'.val ∨ 32 * k'.val + 32 ≤ 32 * k.val
  omega
theorem pR_disj (k k' : Fin 8) (h : k ≠ k') : Disjoint (pR k).set (pR k').set := by
  have : k.val ≠ k'.val := fun e => h (Fin.ext e)
  refine Rect.unit_disjoint 0 ?_
  show k.val + 1 ≤ k'.val ∨ k'.val + 1 ≤ k.val
  omega
theorem qR_disj (j j' : Fin 16) (h : j ≠ j') : Disjoint (qR j).set (qR j').set := by
  have : j.val ≠ j'.val := fun e => h (Fin.ext e)
  refine Rect.unit_disjoint 0 ?_
  show j.val + 1 ≤ j'.val ∨ j'.val + 1 ≤ j.val
  omega

theorem xR_cover : ∀ i, ∃ k, i ∈ (xR k).set := by
  intro i
  have h0 : (i 0).val < 256 := (i 0).isLt
  refine ⟨⟨(i 0).val / 32, by omega⟩, Rect.mem_set_unit.mpr fun a => ?_⟩
  match a with
  | 0 => show 32 * ((i 0).val / 32) ≤ (i 0).val ∧ (i 0).val < 32 * ((i 0).val / 32) + 32; omega
  | 1 => exact ⟨Nat.zero_le _, (Nat.zero_add _).symm ▸ (i 1).isLt⟩
theorem pR_cover : ∀ i, ∃ k, i ∈ (pR k).set := by
  intro i
  refine ⟨i 0, Rect.mem_set_unit.mpr fun a => ?_⟩
  match a with
  | 0 => show (i 0).val ≤ (i 0).val ∧ (i 0).val < (i 0).val + 1; omega
  | 1 => exact ⟨Nat.zero_le _, (Nat.zero_add _).symm ▸ (i 1).isLt⟩
  | 2 => exact ⟨Nat.zero_le _, (Nat.zero_add _).symm ▸ (i 2).isLt⟩
theorem qR_cover : ∀ i, ∃ j, i ∈ (qR j).set := by
  intro i
  refine ⟨i 0, Rect.mem_set_unit.mpr fun a => ?_⟩
  match a with
  | 0 => show (i 0).val ≤ (i 0).val ∧ (i 0).val < (i 0).val + 1; omega
  | 1 => exact ⟨Nat.zero_le _, (Nat.zero_add _).symm ▸ (i 1).isLt⟩
  | 2 => exact ⟨Nat.zero_le _, (Nat.zero_add _).symm ▸ (i 2).isLt⟩

end Cert.KernelIdeal.Pf
-- ==== Proof.KernelIdeal.Proto.lean ====
/-
# The protocol

Every device holds one barrier cell, sixteen send cells and sixteen receive cells, each used for one round.

* The barrier cell of `c` is signalled once by each neighbour. With its signal a neighbour hands over those slots of its own
  landing buffer that `c` will write to.
* The send cell of transfer `j` returns to the sender the half share of what it sent.
* The receive cell of transfer `j` hands the receiver the slot, holding what the sender sent.
-/
module

public import proofs.«01_k».proof.Proof.KernelIdeal.Geom

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, and the transfers' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## What the cells hand over -/

/-- Slot `j` of `c`'s landing buffer, holding anything; -/
def slotAny (c : Dev nD) (j : Fin 16) : sProp 𝕄 := ownsSat (c : Thread nD τ) (qC j) fullShare (fun _ => True)
/-- holding what `c`'s peer in transfer `j` sent. -/
def slot (c : Dev nD) (j : Fin 16) : sProp 𝕄 := owns (c : Thread nD τ) (qC j) fullShare (sv m ρ (peer j c) j)
/-- Chunk `k` of `c`'s block of `x`, at share `q`. -/
def chunk (c : Dev nD) (k : Fin 8) (q : PosShare TreeShare) : sProp 𝕄 := owns (c : Thread nD τ) (xC k) q (xv m ρ c k)
/-- The place of `c`'s partial sum `k`, holding anything; -/
def partAny (c : Dev nD) (k : Fin 8) : sProp 𝕄 := ownsSat (c : Thread nD τ) (pC k) fullShare (fun _ => True)
/-- holding the partial sum, at share `q`. -/
def part (c : Dev nD) (k : Fin 8) (q : PosShare TreeShare) : sProp 𝕄 := owns (c : Thread nD τ) (pC k) q (pv m ρ c k)
/-- Chunk `k` of `c`'s result, holding anything; holding the result. -/
def outAny (c : Dev nD) (k : Fin 8) : sProp 𝕄 := ownsSat (c : Thread nD τ) (oC k) fullShare (fun _ => True)
def outAt (c : Dev nD) (k : Fin 8) : sProp 𝕄 := owns (c : Thread nD τ) (oC k) fullShare (ov m ρ c k)

/-- What `c` reads from in transfer `j`, at the right half share. -/
def sendPay (c : Dev nD) (j : Fin 16) : sProp 𝕄 :=
  if h : j.val < 8 then chunk m ρ c ⟨j.val, h⟩ fullShare.right else part m ρ c ⟨j.val - 8, by omega⟩ fullShare.right
theorem sendPay_lo (c : Dev nD) (k : Fin 8) : sendPay m ρ c (lo k) = chunk m ρ c k fullShare.right := dif_pos k.isLt
theorem sendPay_hi (c : Dev nD) (k : Fin 8) : sendPay m ρ c (hi k) = part m ρ c k fullShare.right := by
  unfold sendPay; rw [dif_neg (show ¬ (hi k).val < 8 by show ¬ k.val + 8 < 8; omega)]
  exact congrArg (fun k => part m ρ c k fullShare.right) (Fin.ext (show k.val + 8 - 8 = k.val by omega))

/-- What neighbour `d` of `c` hands `c` with its signal: its slots for the transfers between them. -/
def barPay (c : Dev nD) (d : Bool) : sProp 𝕄 :=
  bigSep (Finset.univ.filter fun j => side j = d) fun j => slotAny (F := F) (nb d c) j

instance slotAny_storable (c : Dev nD) (j : Fin 16) : BI.Storable (upEmb : UEmb _ 𝕄) (slotAny (F := F) c j) := by
  unfold slotAny; infer_instance
instance slot_storable (c : Dev nD) (j : Fin 16) : BI.Storable (upEmb : UEmb _ 𝕄) (slot m ρ c j) := by
  unfold slot; infer_instance
instance sendPay_storable (c : Dev nD) (j : Fin 16) : BI.Storable (upEmb : UEmb _ 𝕄) (sendPay m ρ c j) := by
  unfold sendPay chunk part; split <;> infer_instance
instance barPay_storable (c : Dev nD) (d : Bool) : BI.Storable (upEmb : UEmb _ 𝕄) (barPay (F := F) c d) := by
  unfold barPay; infer_instance

/-! ## The cells and their schedule -/

/-- A device's cells: the barrier's, the send cells, the receive cells. -/
abbrev Ix : Type := Unit ⊕ (Fin 16 ⊕ Fin 16)

abbrev csem : Ix → SemLoc sig
  | .inl _ => .reg barS
  | .inr (.inl j) => .dma (sS j)
  | .inr (.inr j) => .dma (rS j)
abbrev kcell (ck : Dev nD × Ix) : GSem nD τ sig := ((ck.1 : Thread nD τ), csem ck.2)

/-- Which cell a semaphore is. -/
def dec : SemLoc sig → Option Ix
  | .reg s => if s = barS then some (.inl ()) else none
  | .dma q => if h : 18 ≤ q.val then some (.inr (.inr ⟨q.val - 18, by have : q.val < 34 := q.isLt; omega⟩))
    else if h : 2 ≤ q.val then some (.inr (.inl ⟨q.val - 2, by omega⟩)) else none

theorem dec_bar : dec (.reg barS) = some (.inl ()) := by dsimp only [dec]; rw [if_pos rfl]
theorem dec_send (j : Fin 16) : dec (.dma (sS j)) = some (.inr (.inl j)) := by
  have h : ¬ 18 ≤ (sS j).val := by show ¬ 18 ≤ 2 + j.val; omega
  dsimp only [dec]; rw [dif_neg h, dif_pos (show 2 ≤ (sS j).val by show 2 ≤ 2 + j.val; omega)]
  exact congrArg (fun j : Fin 16 => (some (.inr (.inl j)) : Option Ix)) (Fin.ext (show 2 + j.val - 2 = j.val by omega))
theorem dec_recv (j : Fin 16) : dec (.dma (rS j)) = some (.inr (.inr j)) := by
  dsimp only [dec]; rw [dif_pos (show 18 ≤ (rS j).val by show 18 ≤ 18 + j.val; omega)]
  exact congrArg (fun j : Fin 16 => (some (.inr (.inr j)) : Option Ix)) (Fin.ext (show 18 + j.val - 18 = j.val by omega))
theorem dec_csem (i : Ix) : dec (csem i) = some i := by
  rcases i with _ | j | j
  · exact dec_bar
  · exact dec_send j
  · exact dec_recv j
theorem csem_inj : Function.Injective csem := fun a b h =>
  Option.some.inj ((dec_csem a).symm.trans ((congrArg dec h).trans (dec_csem b)))
theorem kcell_inj : Function.Injective kcell := fun a b h => by
  obtain ⟨c, i⟩ := a; obtain ⟨c', i'⟩ := b
  have h₁ : c = c' := congrArg (fun g : GSem nD τ sig => g.1.1) h
  have h₂ : i = i' := csem_inj (congrArg (fun g : GSem nD τ sig => g.2) h)
  rw [h₁, h₂]

/-- The duties of a cell: a barrier cell's two signals (named by the neighbour that gives them), the one transfer of a send
    or receive cell. -/
def dutiesOf : Option Ix → Finset Bool
  | some (.inl _) => Finset.univ
  | some (.inr _) => {false}
  | none => ∅
def amountOf : Option Ix → ℕ
  | some (.inl _) => 1
  | _ => N
def payOf (c : Dev nD) (d : Bool) : Option Ix → sProp 𝕄
  | some (.inl _) => barPay (F := F) c d
  | some (.inr (.inl j)) => sendPay m ρ c j
  | some (.inr (.inr j)) => slot m ρ c j
  | none => iprop(emp)

/-- One round, round 0, of every cell. -/
def Rd : Rounds.Schedule (GSem nD τ sig) Bool 𝕄 where
  duties g r := if r = 0 ∧ g.1.2 = .tc then dutiesOf (dec g.2) else ∅
  unitless _ := False
  amount g _ _ := amountOf (dec g.2)
  payload g _ d := payOf m ρ g.1.1 d (dec g.2)
  amount_pos g _ _ _ := by
    unfold amountOf; split
    · exact Nat.one_pos
    · exact N_pos

instance Rd_payload_storable (g : GSem nD τ sig) (r : ℕ) (d : Bool) :
    BI.Storable (upEmb : UEmb _ 𝕄) ((Rd (F := F) m ρ).payload g r d) := by
  show BI.Storable upEmb (payOf m ρ g.1.1 d (dec g.2))
  unfold payOf; split <;> infer_instance

section Sched
variable (c : Dev nD) (j : Fin 16)

theorem duties_cell (i : Ix) : (Rd (F := F) m ρ).duties ((c : Thread nD τ), csem i) 0 = dutiesOf (some i) := by
  dsimp only [Rd]; rw [if_pos ⟨rfl, rfl⟩, dec_csem]
theorem no_more (g : GSem nD τ sig) (r : ℕ) (hr : 1 ≤ r) : (Rd (F := F) m ρ).duties g r = ∅ :=
  if_neg fun h => absurd h.1 (Nat.pos_iff_ne_zero.mp hr)
theorem amount_cell (i : Ix) (d : Bool) : (Rd (F := F) m ρ).amount ((c : Thread nD τ), csem i) 0 d = amountOf (some i) := by
  dsimp only [Rd]; rw [dec_csem]
theorem payload_cell (i : Ix) (d : Bool) :
    (Rd (F := F) m ρ).payload ((c : Thread nD τ), csem i) 0 d = payOf m ρ c d (some i) := by
  dsimp only [Rd]; rw [dec_csem]

theorem duties_bar : (Rd (F := F) m ρ).duties (barCell c) 0 = Finset.univ := duties_cell m ρ c (.inl ())
theorem duties_send : (Rd (F := F) m ρ).duties (sCell c j) 0 = {false} := duties_cell m ρ c (.inr (.inl j))
theorem duties_recv : (Rd (F := F) m ρ).duties (rCell c j) 0 = {false} := duties_cell m ρ c (.inr (.inr j))
theorem amount_bar (d : Bool) : (Rd (F := F) m ρ).amount (barCell c) 0 d = 1 := amount_cell m ρ c (.inl ()) d
theorem amount_send (d : Bool) : (Rd (F := F) m ρ).amount (sCell c j) 0 d = N := amount_cell m ρ c (.inr (.inl j)) d
theorem amount_recv (d : Bool) : (Rd (F := F) m ρ).amount (rCell c j) 0 d = N := amount_cell m ρ c (.inr (.inr j)) d
theorem payload_bar (d : Bool) : (Rd (F := F) m ρ).payload (barCell c) 0 d = barPay c d := payload_cell m ρ c (.inl ()) d
theorem payload_send (d : Bool) : (Rd (F := F) m ρ).payload (sCell c j) 0 d = sendPay m ρ c j := payload_cell m ρ c (.inr (.inl j)) d
theorem payload_recv (d : Bool) : (Rd (F := F) m ρ).payload (rCell c j) 0 d = slot m ρ c j := payload_cell m ρ c (.inr (.inr j)) d

/-- What a cell takes in over its round: a signal from either side at the barrier, one transfer elsewhere. -/
def fullOf : Ix → ℕ
  | .inl _ => 2
  | .inr _ => N

theorem full_cell (i : Ix) : (Rd (F := F) m ρ).expect ((c : Thread nD τ), csem i) 0 = fullOf i := by
  have e : (Rd (F := F) m ρ).expect ((c : Thread nD τ), csem i) 0 = ∑ d ∈ dutiesOf (some i), amountOf (some i) :=
    (congrArg (fun S : Finset Bool => ∑ d ∈ S, _) (duties_cell m ρ c i)).trans (Finset.sum_congr rfl fun d _ => amount_cell m ρ c i d)
  rw [e]
  match i with
  | .inl _ => rfl
  | .inr _ => exact Finset.sum_singleton _ _

/-- What a wait for a whole round collects at a cell. -/
theorem collect_cell (i : Ix) :
    bigSep ((Rd (F := F) m ρ).duties ((c : Thread nD τ), csem i) 0 \ ∅) (fun d => (Rd (F := F) m ρ).payload ((c : Thread nD τ), csem i) 0 d)
      = bigSep (dutiesOf (some i)) fun d => payOf m ρ c d (some i) := by
  rw [duties_cell, Finset.sdiff_empty]
  exact congrArg _ (funext fun d => payload_cell m ρ c i d)

/-- At a send or a receive cell that is one payload. -/
theorem collect_one (x : Fin 16 ⊕ Fin 16) :
    bigSep ((Rd (F := F) m ρ).duties ((c : Thread nD τ), csem (.inr x)) 0 \ ∅) (fun d => (Rd (F := F) m ρ).payload ((c : Thread nD τ), csem (.inr x)) 0 d)
      = payOf m ρ c false (some (.inr x)) :=
  (collect_cell m ρ c (.inr x)).trans bigSep_singleton

/-- The two neighbours' slots are one slot per transfer. -/
theorem barPays : (bigSep Finset.univ fun d => barPay (F := F) c d) = bigSep Finset.univ fun j => slotAny (F := F) (peer j c) j := by
  have e (d : Bool) : barPay (F := F) c d = bigSep (Finset.univ.filter fun j => side j = d) fun j => slotAny (F := F) (peer j c) j :=
    bigSep_congr fun j hj => by unfold peer; rw [(Finset.mem_filter.mp hj).2]
  have hb : (Finset.univ : Finset Bool) = insert true {false} := rfl
  rw [hb, bigSep_insert (by decide), bigSep_singleton, e, e, bigSep_filter_split Finset.univ fun j => side j = true]
  simp only [Bool.not_eq_true]
/-- Likewise what `c` itself hands its two neighbours is its whole landing buffer. -/
theorem barGives : (bigSep Finset.univ fun d => barPay (F := F) (nb d c) d) = bigSep Finset.univ fun j => slotAny (F := F) c j := by
  have e (d : Bool) : barPay (F := F) (nb d c) d = bigSep (Finset.univ.filter fun j => side j = d) fun j => slotAny (F := F) c j :=
    bigSep_congr fun j _ => by rw [nb_nb]
  have hb : (Finset.univ : Finset Bool) = insert true {false} := rfl
  rw [hb, bigSep_insert (by decide), bigSep_singleton, e, e, bigSep_filter_split Finset.univ fun j => side j = true]
  simp only [Bool.not_eq_true]
end Sched

/-! ## What a device owes, and the levels -/

/-- After `n` transfers a device owes each later transfer's receiver its credit. -/
def OR (c : Dev nD) (n : ℕ) : CellTallies nD τ sig Unit :=
  ∑ j : Fin 16, if n ≤ j.val then tallyAt (rCell (peer j c) j) () N else 0
/-- At launch it also owes both neighbours a signal. -/
def O₁ (c : Dev nD) : CellTallies nD τ sig Unit := OR c 0 + tallyAt (barCell (nb true c)) () 1
def O₀ (c : Dev nD) : CellTallies nD τ sig Unit := O₁ c + tallyAt (barCell (nb false c)) () 1

theorem OR_step (c : Dev nD) (j : Fin 16) : OR c j.val = OR c (j.val + 1) + tallyAt (rCell (peer j c) j) () N := by
  unfold OR
  rw [← Finset.sum_erase_add Finset.univ (fun i : Fin 16 => if j.val ≤ i.val then tallyAt (rCell (peer i c) i) () N else 0) (Finset.mem_univ j),
    ← Finset.sum_erase_add Finset.univ (fun i : Fin 16 => if j.val + 1 ≤ i.val then tallyAt (rCell (peer i c) i) () N else 0) (Finset.mem_univ j),
    if_pos le_rfl, if_neg (show ¬ j.val + 1 ≤ j.val by omega), add_zero]
  congr 1
  refine Finset.sum_congr rfl fun j' hj' => ?_
  have hne : j'.val ≠ j.val := fun e => (Finset.mem_erase.mp hj').1 (Fin.ext e)
  by_cases h : j.val ≤ j'.val
  · rw [if_pos h, if_pos (by omega)]
  · rw [if_neg h, if_neg (by omega)]
theorem OR_end (c : Dev nD) : OR c 16 = 0 := Finset.sum_eq_zero fun j _ => if_neg (by omega)

theorem OR_pos {c : Dev nD} {n : ℕ} {g : GSem nD τ sig} {u : Unit} (h : 0 < OR c n g u) :
    ∃ j : Fin 16, n ≤ j.val ∧ g = rCell (peer j c) j := by
  by_contra hn
  refine Nat.lt_irrefl 0 (h.trans_eq ?_)
  unfold OR
  rw [Finset.sum_apply, Finsupp.finset_sum_apply]
  refine Finset.sum_eq_zero fun j _ => ?_
  by_cases hj : n ≤ j.val
  · rw [if_pos hj, tallyAt_apply, if_neg fun h' => hn ⟨j, hj, h'.1⟩]
  · rw [if_neg hj]; rfl

theorem add_tally_pos {A : CellTallies nD τ sig Unit} {g g' : GSem nD τ sig} {n : ℕ} {u : Unit}
    (h : 0 < (A + tallyAt g' () n) g u) : 0 < A g u ∨ g = g' := by
  by_cases e : g = g'
  · exact .inr e
  · rw [Pi.add_apply, Finsupp.add_apply, tallyAt_apply, if_neg fun h' => e h'.1, add_zero] at h
    exact .inl h

theorem O₀_pos {c : Dev nD} {g : GSem nD τ sig} {u : Unit} (h : 0 < O₀ c g u) :
    (∃ j : Fin 16, g = rCell (peer j c) j) ∨ ∃ d, g = barCell (nb d c) := by
  rcases add_tally_pos h with h | h
  · rcases add_tally_pos h with h | h
    · obtain ⟨j, -, e⟩ := OR_pos h
      exact .inl ⟨j, e⟩
    · exact .inr ⟨_, h⟩
  · exact .inr ⟨_, h⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a cell: staging and send cells 0, barrier cells 1, the receive cells of the chunks of `x` 2, those of the
    partial sums 3. -/
def lvOf : Option Ix → ℕ
  | some (.inl _) => 1
  | some (.inr (.inl _)) => 0
  | some (.inr (.inr j)) => if j.val < 8 then 2 else 3
  | none => 0
def lv (g : GSem nD τ sig) (_ : Unit) : ℕ := lvOf (dec g.2)

/-- A device may wait at a cell when everything it owes lies at higher levels. -/
theorem mayWait (c : Dev nD) (sm : SemLoc sig) (O : CellTallies nD τ sig Unit)
    (hO : ∀ g u, 0 < O g u → ∃ (c' : Dev nD) (sm' : SemLoc sig), g = ((c' : Thread nD τ), sm') ∧ lvOf (dec sm) < lvOf (dec sm')) :
    (levAts L lv : sProp 𝕄) ⊢ MayWait (c : Thread nD τ) sm () O :=
  MayOwe.of_cut (L := L) (lev := lv) (lvOf (dec sm))
    (fun p hp => by rw [Finset.mem_singleton.mp hp, L_tc]; exact Finset.mem_singleton_self _)
    (fun g u hg => by obtain ⟨c', sm', rfl, -⟩ := hO g u hg; rw [L_tc]; exact Finset.mem_singleton_self _)
    (fun p hp => by rw [Finset.mem_singleton.mp hp]; exact le_rfl)
    (fun g u hg => by obtain ⟨c', sm', rfl, h⟩ := hO g u hg; exact h)

/-- A staging semaphore, before any transfer; -/
theorem mayWait_stage (c : Dev nD) (sm : SemLoc sig) (hs : dec sm = none) (O : CellTallies nD τ sig Unit) (hO : O = O₀ c ∨ O = 0) :
    (levAts L lv : sProp 𝕄) ⊢ MayWait (c : Thread nD τ) sm () O := by
  rcases hO with rfl | rfl
  · refine mayWait c sm _ fun g u hg => ?_
    rw [hs]
    rcases O₀_pos hg with ⟨j, rfl⟩ | ⟨d, rfl⟩
    · refine ⟨_, _, rfl, ?_⟩; rw [dec_recv]; dsimp only [lvOf]; split <;> decide
    · refine ⟨_, _, rfl, ?_⟩; rw [dec_bar]; decide
  · rw [MayWait_zero]; iintro -; iempintro
/-- the barrier, once both signals are given; -/
theorem mayWait_bar (c : Dev nD) : (levAts L lv : sProp 𝕄) ⊢ MayWait (c : Thread nD τ) (.reg barS) () (OR c 0) := by
  refine mayWait c _ _ fun g u hg => ?_
  obtain ⟨j, -, rfl⟩ := OR_pos hg
  refine ⟨_, _, rfl, ?_⟩; rw [dec_recv, dec_bar]; dsimp only [lvOf]; split <;> decide
/-- a chunk of `x`, once all chunks are sent; a partial sum, once everything is. -/
theorem mayWait_recv (c : Dev nD) (j : Fin 16) (s : ℕ) (h₀ : 8 ≤ s) (h : j.val < 8 ∨ s = 16) :
    (levAts L lv : sProp 𝕄) ⊢ MayWait (c : Thread nD τ) (.dma (rS j)) () (OR c s) := by
  refine mayWait c _ _ fun g u hg => ?_
  obtain ⟨j', hj', rfl⟩ := OR_pos hg
  have hlt : j'.val < 16 := j'.isLt
  refine ⟨_, _, rfl, ?_⟩; rw [dec_recv, dec_recv]; dsimp only [lvOf]
  rw [if_pos (by omega), if_neg (by omega)]; decide

end Cert.KernelIdeal.Pf
-- ==== Proof.KernelIdeal.Steps.lean ====
/-
# The state of a device, and one rule per kind of step

`St K c s r p o w` is what device `c` holds after it has started `s` transfers, received `r`, stored `p` partial sums and `o`
chunks of the result, and waited for `w` of its sends. Each rule below runs one operation of the kernel (or a store and the
transfer that follows it) from one such state to the next, for any chunk and any transfer.
-/
module

public import proofs.«01_k».proof.Proof.KernelIdeal.Proto

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program's weakest precondition on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of one slice -/

section Access
variable (c : Dev nD) {s s' : Shape} (M : Memref sig .tc .vmem s .f32) (r : Rect s) (hr : ∀ a, r.stride a = 1) (hq : r.shape.Squeezes s')
  (q : PosShare TreeShare)

theorem setOn_slice (s₁ : Finset M.view.ty.Idx) (h : s₁ = (M.slice r hr).view.set) : M.view.setOn r.toLoadRect.set ⊆ s₁ := by
  rw [h]; exact (View.set_slice M.view r).ge

/-- A load of a slice, held at `X`, gives `X`. -/
theorem load_slice {α : Type} {Q : α → sProp 𝕄} (X : r.shape.Idx → Elt F .f32) {hl : M.view.LoadsAt r.toLoadRect}
    {k : (r.shape.Idx → Elt F .f32) → Prog (TpuEff nD τ sig (Elt F) Λ₀ .tc) α} :
    owns (c : Thread nD τ) (M.slice r hr) q X
      ⊢ iprop((owns (c : Thread nD τ) (M.slice r hr) q X -∗ Wp c (k X) Q) -∗ Wp c (.op (.load M r.toLoadRect hl) k) Q) := by
  unfold owns
  iintro ⟨%f, %hf, H⟩ Hk
  iapply (wp_load 𝒱₀ (c : Thread nD τ) none Set.univ (m := M) (S := (M.slice r hr).view.set) (setOn_slice M r hr _ rfl)) $$ H
  iintro H
  rw [show M.view.readAt (Elt F) r.toLoadRect f = X from hf]
  iapply Hk
  iexists f; isplitr; · ipureintro; exact hf
  iexact H

/-- A load of a slice that is held with its unit axis dropped, at contents that meet `Φ`, gives a value whose cast meets `Φ`. -/
theorem load_squeezed {α : Type} {Q : α → sProp 𝕄} (Φ : (s'.Idx → Elt F .f32) → Prop) (hc : r.shape.ShapeCasts s') {hl : M.view.LoadsAt r.toLoadRect}
    {k : (r.shape.Idx → Elt F .f32) → Prog (TpuEff nD τ sig (Elt F) Λ₀ .tc) α} :
    ownsSat (c : Thread nD τ) ((M.slice r hr).squeeze s' hq) q Φ
      ⊢ iprop((∀ v, ⌜Φ (shapeCast s' v hc)⌝ -∗ ownsSat (c : Thread nD τ) ((M.slice r hr).squeeze s' hq) q Φ -∗ Wp c (k v) Q)
          -∗ Wp c (.op (.load M r.toLoadRect hl) k) Q) := by
  unfold ownsSat
  iintro ⟨%f, %hf, H⟩ Hk
  iapply (wp_load 𝒱₀ (c : Thread nD τ) none Set.univ (m := M) (S := ((M.slice r hr).squeeze s' hq).view.set)
    (setOn_slice M r hr _ (Memref.set_view_squeeze _ hq))) $$ H
  iintro H
  iapply Hk
  · ipureintro; exact hf
  iexists f; isplitr; · ipureintro; exact hf
  iexact H

/-- A store to a slice leaves it at what was stored; -/
theorem store_slice {α : Type} {Q : α → sProp 𝕄} (Φ : (r.shape.Idx → Elt F .f32) → Prop) (w : r.shape.Idx → Elt F .f32) {hx : (M.access r).Stores Finset.univ}
    {hm : (Finset.univ : Finset r.shape.Idx) = Finset.univ ∨ ∀ a, r.stride a = 1} {k : PUnit → Prog (TpuEff nD τ sig (Elt F) Λ₀ .tc) α} :
    ownsSat (c : Thread nD τ) (M.slice r hr) fullShare Φ
      ⊢ iprop((owns (c : Thread nD τ) (M.slice r hr) fullShare w -∗ Wp c (k ⟨⟩) Q)
          -∗ Wp c (.op (.store M r w Finset.univ hx hm) k) Q) := by
  unfold ownsSat owns
  iintro ⟨%f, %hf, H⟩ Hk
  iapply (wp_store 𝒱₀ (c : Thread nD τ) none Set.univ (m := M) (r := r) (Mk := Finset.univ) (S := (M.slice r hr).view.set) (Finset.Subset.refl _)) $$ H
  iintro H
  iapply Hk
  iexists ((M.access r).write (Elt F) f w Finset.univ); isplitr
  · ipureintro; exact View.read_write_univ f w
  iexact H

/-- the same for a slice with its unit axis dropped. -/
theorem store_squeezed {α : Type} {Q : α → sProp 𝕄} (Φ : (s'.Idx → Elt F .f32) → Prop) (hc : r.shape.ShapeCasts s') (w : r.shape.Idx → Elt F .f32) {hx : (M.access r).Stores Finset.univ}
    {hm : (Finset.univ : Finset r.shape.Idx) = Finset.univ ∨ ∀ a, r.stride a = 1} {k : PUnit → Prog (TpuEff nD τ sig (Elt F) Λ₀ .tc) α} :
    ownsSat (c : Thread nD τ) ((M.slice r hr).squeeze s' hq) fullShare Φ
      ⊢ iprop((owns (c : Thread nD τ) ((M.slice r hr).squeeze s' hq) fullShare (shapeCast s' w hc) -∗ Wp c (k ⟨⟩) Q)
          -∗ Wp c (.op (.store M r w Finset.univ hx hm) k) Q) := by
  unfold ownsSat owns
  iintro ⟨%f, %hf, H⟩ Hk
  iapply (wp_store 𝒱₀ (c : Thread nD τ) none Set.univ (m := M) (r := r) (Mk := Finset.univ) (S := ((M.slice r hr).squeeze s' hq).view.set)
    (Memref.set_view_squeeze (M.slice r hr) hq).ge) $$ H
  iintro H
  iapply Hk
  iexists ((M.access r).write (Elt F) f w Finset.univ); isplitr
  · ipureintro
    rw [Memref.read_squeeze_slice M r hr hq hc]
    exact congrArg (fun v => shapeCast s' v hc) (View.read_write_univ (v := M.access r) f w)
  iexact H

end Access

/-! ## The state -/

variable (K : Dev nD × Ix → ℕ)

/-- Of one cell: its invariant, and that it has reached round 0. -/
def record (x : Dev nD × Ix) : sProp 𝕄 := iprop(cellInv ER (Rd m ρ) (K x) (kcell x) ∗ reached ER (kcell x) 0)
instance (x : Dev nD × Ix) : BI.Persistent (record (F := F) m ρ K x) := by unfold record; infer_instance

/-- The same of all of them. -/
def records : sProp 𝕄 := bigSep Finset.univ (record (F := F) m ρ K)
instance : BI.Persistent (records (F := F) m ρ K) := by unfold records; infer_instance

theorem records_at (c : Dev nD) (i : Ix) :
    records (F := F) m ρ K ⊢ iprop(cellInv ER (Rd m ρ) (K (c, i)) ((c : Thread nD τ), csem i) ∗ reached ER ((c : Thread nD τ), csem i) 0) :=
  bigSep_elim (Φ := record (F := F) m ρ K) (Finset.mem_univ (c, i))

variable (c : Dev nD)

/-- What `c` holds for starting transfer `j`: the two tokens, the slot it writes, and, for a chunk of `x`, what it reads. -/
def toSend (j : Fin 16) : sProp 𝕄 :=
  iprop(dutyTok ER (sCell c j) 0 false ∗ dutyTok ER (rCell (peer j c) j) 0 false ∗ slotAny (F := F) (peer j c) j
    ∗ if j.val < 8 then sendPay m ρ c j else emp)
/-- Transfer `j` on the sending side, given that `s` are started and `w` waited for; -/
def sendSt (s w : ℕ) (j : Fin 16) : sProp 𝕄 :=
  if j.val < w then iprop(semVal (sCell c j) 0 ∗ sendPay m ρ c j)
  else iprop(atPos ER (sCell c j) 0 ∅ 0 ∗ if j.val < s then cred (tallyAt (sCell c j) () N) else toSend m ρ c j)
/-- on the receiving side, given that `r` are received. -/
def recvSt (r : ℕ) (j : Fin 16) : sProp 𝕄 :=
  if j.val < r then iprop(semVal (rCell c j) 0 ∗ slot m ρ c j)
  else iprop(atPos ER (rCell c j) 0 ∅ 0 ∗ cred (tallyAt (rCell c j) () N))
/-- Partial sum `k`, given that `p` are stored; chunk `k` of the result, given that `o` are. -/
def partSt (p : ℕ) (k : Fin 8) : sProp 𝕄 := if k.val < p then part m ρ c k fullShare.left else partAny c k
def outSt (o : ℕ) (k : Fin 8) : sProp 𝕄 := if k.val < o then outAt m ρ c k else outAny c k

def St (s r p o w : ℕ) : sProp 𝕄 :=
  iprop(□ (records m ρ K ∗ levAts L lv) ∗ (∃ W, owes (c : Thread nD τ) (OR c s) W) ∗ bigSep Finset.univ (sendSt m ρ c s w)
    ∗ bigSep Finset.univ (recvSt m ρ c r) ∗ bigSep Finset.univ (partSt m ρ c p) ∗ bigSep Finset.univ (outSt m ρ c o)
    ∗ bigSep Finset.univ (fun k => chunk m ρ c k fullShare.left) ∗ semVal (barCell c) 0)

/-! ## Advancing one counter changes one element -/

theorem sendSt_start (s w : ℕ) (j i : Fin 16) (hs : s = j.val) (h : i ≠ j) : sendSt m ρ c (s + 1) w i = sendSt m ρ c s w i := by
  subst hs
  have hne : i.val ≠ j.val := fun e => h (Fin.ext e)
  unfold sendSt; simp only [show (i.val < j.val + 1) = (i.val < j.val) from propext (by omega)]
theorem sendSt_wait (s w : ℕ) (j i : Fin 16) (hw : w = j.val) (h : i ≠ j) : sendSt m ρ c s (w + 1) i = sendSt m ρ c s w i := by
  subst hw
  have hne : i.val ≠ j.val := fun e => h (Fin.ext e)
  unfold sendSt; simp only [show (i.val < j.val + 1) = (i.val < j.val) from propext (by omega)]
theorem recvSt_step (r : ℕ) (j i : Fin 16) (hr : r = j.val) (h : i ≠ j) : recvSt m ρ c (r + 1) i = recvSt m ρ c r i := by
  subst hr
  have hne : i.val ≠ j.val := fun e => h (Fin.ext e)
  unfold recvSt; simp only [show (i.val < j.val + 1) = (i.val < j.val) from propext (by omega)]
theorem partSt_step (p : ℕ) (k i : Fin 8) (hp : p = k.val) (h : i ≠ k) : partSt m ρ c (p + 1) i = partSt m ρ c p i := by
  subst hp
  have hne : i.val ≠ k.val := fun e => h (Fin.ext e)
  unfold partSt; simp only [show (i.val < k.val + 1) = (i.val < k.val) from propext (by omega)]
theorem outSt_step (o : ℕ) (k i : Fin 8) (ho : o = k.val) (h : i ≠ k) : outSt m ρ c (o + 1) i = outSt m ρ c o i := by
  subst ho
  have hne : i.val ≠ k.val := fun e => h (Fin.ext e)
  unfold outSt; simp only [show (i.val < k.val + 1) = (i.val < k.val) from propext (by omega)]

/-- An element of a family, lent and given back. -/
theorem bigSep_lend {I : Type} [Fintype I] [DecidableEq I] (Φ : I → sProp 𝕄) (i : I) :
    bigSep Finset.univ Φ ⊢ iprop(Φ i ∗ (Φ i -∗ bigSep Finset.univ Φ)) := bigSep_univ_update i fun _ _ => rfl

/-! ## The transfers -/

section Steps
variable {c}

/-- Every transfer counts for the same credit. -/
theorem credit_q (j : Fin 16) : (qC j).view.dmaCredit = N := rfl
theorem amount_q (j : Fin 16) : (qC j).view.amount (.dma (rS j)) = N := by unfold View.amount; exact credit_q j
theorem credit_x (k : Fin 8) : (xC k).view.dmaCredit = N := rfl
theorem credit_p (k : Fin 8) : (pC k).view.dmaCredit = N := rfl

/-- Starting transfer `j` to `n`, the peer, from `src`, held at what is sent. -/
theorem wp_transfer {α : Type} {Q : α → sProp 𝕄} (j : Fin 16) (n : Dev nD) (hn : n = peer j c) (src : Memref sig .tc .vmem S32x256 .f32) (q : PosShare TreeShare)
    (hpay : owns (c : Thread nD τ) src q (sv m ρ c j) ⊢ sendPay m ρ c j)
    {hsc : (qC j : Memref sig (Dev.tc n : Thread nD τ).2.kind .vmem S32x256 .f32).view.ref.isScScratch = false}
    {hsrc : src.view.WordExact} {hdst : (qC j : Memref sig .tc .vmem S32x256 .f32).view.WordExact}
    {hsem : DmaTarget.Typed .vmem (.dma (rS j)) (.remote (Dev.tc n : Thread nD τ) (qC j) (.dma (sS j)) hsc)}
    {k : PUnit → Prog (TpuEff nD τ sig (Elt F) Λ₀ .tc) α} (W : Waits sig Unit) :
    iprop(records m ρ K ∗ owns (c : Thread nD τ) src q (sv m ρ c j) ∗ slotAny (peer j c) j
        ∗ owes (c : Thread nD τ) (OR c j.val) W ∗ dutyTok ER (sCell c j) 0 false ∗ dutyTok ER (rCell (peer j c) j) 0 false)
      ⊢ iprop(((cred (tallyAt (sCell c j) () N) ∗ owes (c : Thread nD τ) (OR c (j.val + 1)) W) -∗ Wp c (k ⟨⟩) Q)
          -∗ Wp c (.op (.enqueueDma src (.remote (Dev.tc n : Thread nD τ) (qC j) (.dma (sS j)) hsc) (.dma (rS j)) hsrc hdst hsem) k) Q) := by
  subst hn
  unfold slotAny ownsSat
  iintro ⟨#HR, Hsrc, ⟨%fd, -, Hdst⟩, HO, Ht₁, Ht₂⟩
  ihave Hsrc' := (show owns (c : Thread nD τ) src q (sv m ρ c j)
    ⊢ (iprop(∃ f, ⌜src.view.read (Elt F) f = sv m ρ c j⌝ ∗ (src.view.loc (c : Thread nD τ) ↦[src.view.set]{q} f)) : sProp 𝕄) from .rfl) $$ Hsrc
  icases Hsrc' with ⟨%fs, %hfs, Hsrc⟩
  ihave H₁ := (records_at (F := F) m ρ K c (.inr (.inl j))) $$ HR
  icases H₁ with ⟨Hi₁, Hr₁⟩
  ihave H₂ := (records_at (F := F) m ρ K (peer j c) (.inr (.inr j))) $$ HR
  icases H₂ with ⟨Hi₂, Hr₂⟩
  iapply (Rounds.wp_send_pointsTo 𝒱₀ ER (Rd m ρ) (c : Thread nD τ) none (κ₁ := K (c, .inr (.inl j))) (κ₂ := K (peer j c, .inr (.inr j)))
    (r₁ := 0) (r₂ := 0) (d₁ := false) (d₂ := false) (fd := fd) (fs := fs) (q := q)
    (by rw [duties_send]; exact Finset.mem_singleton_self _) (by rw [duties_recv]; exact Finset.mem_singleton_self _)
    () () N (amount_q j) (amount_send m ρ c j false) (amount_recv m ρ (peer j c) j false) (OR c (j.val + 1)) (OR_step c j) (W := W)
    (by rw [payload_send]; refine BI.Entails.trans (owns_intro (c : Thread nD τ) src q fs) ?_; rw [hfs]; exact hpay)
    (by
      rw [payload_recv]; unfold slot; rw [peer_peer, ← hfs]
      refine BI.Entails.trans (owns_intro (peer j c : Thread nD τ) (qC j) fullShare _) ?_
      rw [View.read_write_univ]
      exact BI.Entails.refl _))
  isplitl [Hi₁]; · iexact Hi₁
  isplitl [Hi₂]; · iexact Hi₂
  isplitl [Hsrc]; · iexact Hsrc
  isplitl [Hdst]; · iexact Hdst
  isplitl [HO]; · iexact HO
  isplitl [Ht₁]; · iexact Ht₁
  isplitl [Hr₁]; · iexact Hr₁
  isplitl [Ht₂]; · iexact Ht₂
  iexact Hr₂

/-- Transfer `lo k`: chunk `k` of `x`. -/
theorem send_lo {α : Type} {Q : α → sProp 𝕄} {r p o : ℕ} (k : Fin 8) (n : Dev nD) (hn : n = peer (lo k) c)
    {src : Memref sig .tc .vmem S32x256 .f32} {dst : Memref sig (Dev.tc n : Thread nD τ).2.kind .vmem S32x256 .f32} {ss rs : DmaSem sig}
    (esrc : src = xC k) (edst : dst = qC (lo k)) (ess : ss = sS (lo k)) (ers : rs = rS (lo k))
    {hsc : dst.view.ref.isScScratch = false} {hsrc : src.view.WordExact} {hdst : dst.view.WordExact}
    {hsem : DmaTarget.Typed .vmem (.dma rs) (.remote (Dev.tc n : Thread nD τ) dst (.dma ss) hsc)}
    {kt : PUnit → Prog (TpuEff nD τ sig (Elt F) Λ₀ .tc) α} (h : St m ρ K c (k.val + 1) r p o 0 ⊢ Wp c (kt ⟨⟩) Q) :
    St m ρ K c k.val r p o 0
      ⊢ Wp c (.op (.enqueueDma src (.remote (Dev.tc n : Thread nD τ) dst (.dma ss) hsc) (.dma rs) hsrc hdst hsem) kt) Q := by
  subst esrc edst ess ers
  have hs : sendSt m ρ c k.val 0 (lo k) = iprop(atPos ER (sCell c (lo k)) 0 ∅ 0 ∗ toSend m ρ c (lo k)) := by
    unfold sendSt; rw [if_neg (Nat.not_lt_zero _), if_neg (show ¬ (lo k).val < k.val from Nat.lt_irrefl _)]
  have hs' : sendSt m ρ c (k.val + 1) 0 (lo k) = iprop(atPos ER (sCell c (lo k)) 0 ∅ 0 ∗ cred (tallyAt (sCell c (lo k)) () N)) := by
    unfold sendSt; rw [if_neg (Nat.not_lt_zero _), if_pos (show (lo k).val < k.val + 1 from Nat.lt_succ_self _)]
  unfold St toSend at *
  iintro ⟨#HR, ⟨%W, HO⟩, Hs, Hrest⟩
  ihave Hs := (bigSep_univ_update (lo k) fun i hi => sendSt_start m ρ c k.val 0 (lo k) i rfl hi) $$ Hs
  icases Hs with ⟨Hj, Hs⟩
  ihave Hj := (Entails.of_eq hs) $$ Hj
  rw [if_pos (show (lo k).val < 8 from k.isLt), sendPay_lo]
  unfold chunk
  rw [← sv_lo]
  icases Hj with ⟨Hat, Ht₁, Ht₂, Hslot, Hp⟩
  iapply (wp_transfer m ρ K (lo k) n hn (xC k) fullShare.right (by rw [sendPay_lo, sv_lo]; unfold chunk; exact .rfl) W) $$ [HO Ht₁ Ht₂ Hslot Hp]
  · isplitr; · icases HR with ⟨HR, -⟩; iexact HR
    isplitl [Hp]; · iexact Hp
    isplitl [Hslot]; · iexact Hslot
    isplitl [HO]; · iexact HO
    isplitl [Ht₁] <;> iassumption
  iintro ⟨Hc, HO⟩
  iapply h
  isplitr; · iexact HR
  isplitl [HO]; · iexists W; iexact HO
  isplitl [Hs Hat Hc]
  · iapply Hs; rw [hs']; isplitl [Hat] <;> iassumption
  iexact Hrest

/-! ## The waits -/

/-- The wait for transfer `j` to arrive: its slot, holding what the peer sent. -/
theorem wait_recv {α : Type} {Q : α → sProp 𝕄} {s p o w : ℕ} (j : Fin 16) (h₀ : 8 ≤ s) (h₁ : j.val < 8 ∨ s = 16)
    {a b : Memref sig .tc .vmem S32x256 .f32} {rs : DmaSem sig} (hb : b.view.dmaCredit = N) (ers : rs = rS j)
    {ha : a.view.WordExact} {hb' : b.view.WordExact} {kt : PUnit → Prog (TpuEff nD τ sig (Elt F) Λ₀ .tc) α}
    (h : St m ρ K c s (j.val + 1) p o w ⊢ Wp c (kt ⟨⟩) Q) :
    St m ρ K c s j.val p o w ⊢ Wp c (.op (.waitDma2 rs a b ha hb') kt) Q := by
  subst ers
  have hs : recvSt m ρ c j.val j = iprop(atPos ER (rCell c j) 0 ∅ 0 ∗ cred (tallyAt (rCell c j) () b.view.dmaCredit)) := by
    unfold recvSt; rw [if_neg (Nat.lt_irrefl _), hb]
  have hs' : recvSt m ρ c (j.val + 1) j = iprop(semVal (rCell c j) 0 ∗ slot m ρ c j) := by
    unfold recvSt; rw [if_pos (Nat.lt_succ_self _)]
  unfold St at *
  iintro ⟨#HR, ⟨%W, HO⟩, Hs, Hr, Hrest⟩
  ihave Hr := (bigSep_univ_update j fun i hi => recvSt_step m ρ c j.val j i rfl hi) $$ Hr
  icases Hr with ⟨Hj, Hr⟩
  ihave Hj := (Entails.of_eq hs) $$ Hj
  icases Hj with ⟨Hat, Hc⟩
  icases HR with ⟨#HR, #Hlev⟩
  ihave #H₁ := (records_at (F := F) m ρ K c (.inr (.inr j))) $$ HR
  icases H₁ with ⟨#Hi, -⟩
  iapply (Rounds.wp_wait_rest_token 𝒱₀ ER (Rd m ρ) (c : Thread nD τ) none (κ := K (c, .inr (.inr j)))
      (wpE_waitDma2_eq 𝒱₀ (c : Thread nD τ) none Set.univ) (Set.mem_univ _) () (O := OR c s) (W := W) (R := 0) (m := 0) (T := ∅)
      (by rw [Nat.zero_add, hb]; exact (full_cell m ρ c (.inr (.inr j))).symm)) $$ [Hc HO Hat]
  · isplitr; · iexact Hi
    isplitl [Hc]; · iexact Hc
    isplitl [HO]; · iexact HO
    isplitr; · iapply (mayWait_recv c j s h₀ h₁); iexact Hlev
    iexact Hat
  iintro ⟨HO, Hat, -, Hpay⟩
  ihave Hp := (Entails.of_eq (show _ = slot m ρ c j from collect_one m ρ c (.inr j))) $$ Hpay
  imod (Rounds.cell_close ER (Rd m ρ) (Set.mem_univ (K (c, .inr (.inr j)))) (fun h => h) (R := 0 + 1) (no_more m ρ (rCell c j))) $$ [Hat] with Hz
  · isplitr; · iexact Hi
    iexact Hat
  iapply h
  isplitr; · imodintro; isplitr; · iexact HR
             iexact Hlev
  isplitl [HO]; · iexists (insert (.dma (rS j), ()) W); iexact HO
  isplitl [Hs]; · iexact Hs
  isplitl [Hr Hz Hp]
  · iapply Hr; rw [hs']; isplitl [Hz] <;> iassumption
  iexact Hrest

/-- The wait for transfer `j` to have left: the half share of what was sent, back. -/
theorem wait_send {α : Type} {Q : α → sProp 𝕄} {r p o : ℕ} (j : Fin 16)
    {a b : Memref sig .tc .vmem S32x256 .f32} {ss : DmaSem sig} (hb : b.view.dmaCredit = N) (ess : ss = sS j)
    {ha : a.view.WordExact} {hb' : b.view.WordExact} {kt : PUnit → Prog (TpuEff nD τ sig (Elt F) Λ₀ .tc) α}
    (h : St m ρ K c 16 r p o (j.val + 1) ⊢ Wp c (kt ⟨⟩) Q) :
    St m ρ K c 16 r p o j.val ⊢ Wp c (.op (.waitDma2 ss a b ha hb') kt) Q := by
  subst ess
  have hs : sendSt m ρ c 16 j.val j = iprop(atPos ER (sCell c j) 0 ∅ 0 ∗ cred (tallyAt (sCell c j) () b.view.dmaCredit)) := by
    unfold sendSt; rw [if_neg (Nat.lt_irrefl _), if_pos j.isLt, hb]
  have hs' : sendSt m ρ c 16 (j.val + 1) j = iprop(semVal (sCell c j) 0 ∗ sendPay m ρ c j) := by
    unfold sendSt; rw [if_pos (Nat.lt_succ_self _)]
  unfold St at *
  iintro ⟨#HR, ⟨%W, HO⟩, Hs, Hrest⟩
  ihave Hs := (bigSep_univ_update j fun i hi => sendSt_wait m ρ c 16 j.val j i rfl hi) $$ Hs
  icases Hs with ⟨Hj, Hs⟩
  ihave Hj := (Entails.of_eq hs) $$ Hj
  icases Hj with ⟨Hat, Hc⟩
  icases HR with ⟨#HR, #Hlev⟩
  ihave #H₁ := (records_at (F := F) m ρ K c (.inr (.inl j))) $$ HR
  icases H₁ with ⟨#Hi, -⟩
  iapply (Rounds.wp_wait_rest_token 𝒱₀ ER (Rd m ρ) (c : Thread nD τ) none (κ := K (c, .inr (.inl j)))
      (wpE_waitDma2_eq 𝒱₀ (c : Thread nD τ) none Set.univ) (Set.mem_univ _) () (O := OR c 16) (W := W) (R := 0) (m := 0) (T := ∅)
      (by rw [Nat.zero_add, hb]; exact (full_cell m ρ c (.inr (.inl j))).symm)) $$ [Hc HO Hat]
  · isplitr; · iexact Hi
    isplitl [Hc]; · iexact Hc
    isplitl [HO]; · iexact HO
    isplitr; · rw [OR_end, MayWait_zero]; iempintro
    iexact Hat
  iintro ⟨HO, Hat, -, Hpay⟩
  ihave Hp := (Entails.of_eq (show _ = sendPay m ρ c j from collect_one m ρ c (.inl j))) $$ Hpay
  imod (Rounds.cell_close ER (Rd m ρ) (Set.mem_univ (K (c, .inr (.inl j)))) (fun h => h) (R := 0 + 1) (no_more m ρ (sCell c j))) $$ [Hat] with Hz
  · isplitr; · iexact Hi
    iexact Hat
  iapply h
  isplitr; · imodintro; isplitr; · iexact HR
             iexact Hlev
  isplitl [HO]; · iexists (insert (.dma (sS j), ()) W); iexact HO
  isplitl [Hs Hz Hp]
  · iapply Hs; rw [hs']; isplitl [Hz] <;> iassumption
  iexact Hrest

/-! ## The loads -/

/-- A load of chunk `k` of `x` gives the chunk. -/
theorem load_x {α : Type} {Q : α → sProp 𝕄} {s r p o w : ℕ} (k : Fin 8) {hl : xM.view.LoadsAt (xR k).toLoadRect}
    {kt : ((xR k).shape.Idx → Elt F .f32) → Prog (TpuEff nD τ sig (Elt F) Λ₀ .tc) α}
    (h : St m ρ K c s r p o w ⊢ Wp c (kt (xv m ρ c k)) Q) :
    St m ρ K c s r p o w ⊢ Wp c (.op (.load xM (xR k).toLoadRect hl) kt) Q := by
  unfold St at *
  iintro ⟨#HR, HO, Hs, Hr, Hp, Ho, Hx, Hz⟩
  ihave Hx := (bigSep_lend (fun k => chunk m ρ c k fullShare.left) k) $$ Hx
  icases Hx with ⟨Hj, Hx⟩
  unfold chunk at *
  iapply (load_slice (F := F) c xM (xR k) (fun _ => rfl) fullShare.left (xv m ρ c k)) $$ Hj
  iintro Hj
  ihave Hx := Hx $$ Hj
  iapply h
  isplitr; · iexact HR
  isplitl [HO]; · iexact HO
  isplitl [Hs]; · iexact Hs
  isplitl [Hr]; · iexact Hr
  isplitl [Hp]; · iexact Hp
  isplitl [Ho]; · iexact Ho
  isplitl [Hx] <;> iassumption

/-- A load of a slot that has been received gives what the peer sent. -/
theorem load_q {α : Type} {Q : α → sProp 𝕄} {s r p o w : ℕ} (j : Fin 16) (hj : j.val < r) {hl : qM.view.LoadsAt (qR j).toLoadRect}
    {kt : ((qR j).shape.Idx → Elt F .f32) → Prog (TpuEff nD τ sig (Elt F) Λ₀ .tc) α}
    (h : ∀ v : FVec F S1x32x256 .f32, shapeCast S32x256 v shapeCasts_S1x32x256_S32x256 = sv m ρ (peer j c) j → St m ρ K c s r p o w ⊢ Wp c (kt v) Q) :
    St m ρ K c s r p o w ⊢ Wp c (.op (.load qM (qR j).toLoadRect hl) kt) Q := by
  have hs : recvSt m ρ c r j = iprop(semVal (rCell c j) 0 ∗ ownsSat (c : Thread nD τ) (qC j) fullShare (· = sv m ρ (peer j c) j)) := by
    unfold recvSt; rw [if_pos hj]; rfl
  unfold St at *
  iintro ⟨#HR, HO, Hs, Hr, Hrest⟩
  ihave Hr := (bigSep_lend (recvSt m ρ c r) j) $$ Hr
  icases Hr with ⟨Hj, Hr⟩
  ihave Hj := (Entails.of_eq hs) $$ Hj
  icases Hj with ⟨Hz, Hj⟩
  iapply (load_squeezed (F := F) c qM (qR j) (fun _ => rfl) squeezes_S1x32x256_S32x256 fullShare (· = sv m ρ (peer j c) j) shapeCasts_S1x32x256_S32x256) $$ Hj
  iintro %v %hv Hj
  ihave Hr := Hr $$ [Hz Hj]
  · rw [hs]; isplitl [Hz] <;> iassumption
  iapply (h v hv)
  isplitr; · iexact HR
  isplitl [HO]; · iexact HO
  isplitl [Hs]; · iexact Hs
  isplitl [Hr] <;> iassumption

/-- A load of partial sum `k` gives it, if it is stored. -/
theorem load_p {α : Type} {Q : α → sProp 𝕄} {s r p o w : ℕ} (k : Fin 8) {hl : pM.view.LoadsAt (pR k).toLoadRect}
    {kt : ((pR k).shape.Idx → Elt F .f32) → Prog (TpuEff nD τ sig (Elt F) Λ₀ .tc) α}
    (h : ∀ v : FVec F S1x32x256 .f32, (k.val < p → shapeCast S32x256 v shapeCasts_S1x32x256_S32x256 = pv m ρ c k)
      → St m ρ K c s r p o w ⊢ Wp c (kt v) Q) :
    St m ρ K c s r p o w ⊢ Wp c (.op (.load pM (pR k).toLoadRect hl) kt) Q := by
  have hs : partSt m ρ c p k = ownsSat (c : Thread nD τ) (pC k) (if k.val < p then fullShare.left else fullShare)
      (fun v => k.val < p → v = pv m ρ c k) := by
    unfold partSt
    by_cases hk : k.val < p
    · rw [if_pos hk, if_pos hk]; unfold part; rw [owns_eq_ownsSat]
      exact ownsSat_congr _ _ _ fun X => ⟨fun e _ => e, fun e => e hk⟩
    · rw [if_neg hk, if_neg hk]; exact ownsSat_congr _ _ _ fun X => ⟨fun _ e => absurd e hk, fun _ => trivial⟩
  unfold St at *
  iintro ⟨#HR, HO, Hs, Hr, Hp, Hrest⟩
  ihave Hp := (bigSep_lend (partSt m ρ c p) k) $$ Hp
  icases Hp with ⟨Hj, Hp⟩
  ihave Hj := (Entails.of_eq hs) $$ Hj
  iapply (load_squeezed (F := F) c pM (pR k) (fun _ => rfl) squeezes_S1x32x256_S32x256 _ _ shapeCasts_S1x32x256_S32x256) $$ Hj
  iintro %v %hv Hj
  ihave Hp := Hp $$ [Hj]
  · rw [hs]; iexact Hj
  iapply (h v hv)
  isplitr; · iexact HR
  isplitl [HO]; · iexact HO
  isplitl [Hs]; · iexact Hs
  isplitl [Hr]; · iexact Hr
  isplitl [Hp] <;> iassumption

/-- A load of a chunk of the result not yet stored gives some value (the kernel does not use it). -/
theorem load_o {α : Type} {Q : α → sProp 𝕄} {s r p o w : ℕ} (k : Fin 8) (hk : o ≤ k.val) {hl : oM.view.LoadsAt (xR k).toLoadRect}
    {kt : ((xR k).shape.Idx → Elt F .f32) → Prog (TpuEff nD τ sig (Elt F) Λ₀ .tc) α}
    (h : ∀ v, St m ρ K c s r p o w ⊢ Wp c (kt v) Q) :
    St m ρ K c s r p o w ⊢ Wp c (.op (.load oM (xR k).toLoadRect hl) kt) Q := by
  have hs : outSt m ρ c o k ⊣⊢ iprop(∃ X, owns (c : Thread nD τ) (oC k) fullShare X) := by
    unfold outSt; rw [if_neg (by omega)]; exact ownsSat_true _ _ _
  unfold St at *
  iintro ⟨#HR, HO, Hs, Hr, Hp, Ho, Hx⟩
  ihave Ho := (bigSep_lend (outSt m ρ c o) k) $$ Ho
  icases Ho with ⟨Hj, Ho⟩
  ihave Hj := hs.1 $$ Hj
  icases Hj with ⟨%X, Hj⟩
  iapply (load_slice (F := F) c oM (xR k) (fun _ => rfl) fullShare X) $$ Hj
  iintro Hj
  ihave Ho := Ho $$ [Hj]
  · iapply hs.2; iexists X; iexact Hj
  iapply (h X)
  isplitr; · iexact HR
  isplitl [HO]; · iexact HO
  isplitl [Hs]; · iexact Hs
  isplitl [Hr]; · iexact Hr
  isplitl [Hp]; · iexact Hp
  isplitl [Ho] <;> iassumption

/-! ## The stores -/

/-- The store of chunk `k` of the result. -/
theorem store_o {α : Type} {Q : α → sProp 𝕄} {s r p w : ℕ} (k : Fin 8) {v : (xR k).shape.Idx → Elt F .f32} (hv : v = ov m ρ c k)
    {hx : (oM.access (xR k)).Stores Finset.univ} {hm : (Finset.univ : Finset (xR k).shape.Idx) = Finset.univ ∨ ∀ a, (xR k).stride a = 1}
    {kt : PUnit → Prog (TpuEff nD τ sig (Elt F) Λ₀ .tc) α} (h : St m ρ K c s r p (k.val + 1) w ⊢ Wp c (kt ⟨⟩) Q) :
    St m ρ K c s r p k.val w ⊢ Wp c (.op (.store oM (xR k) v Finset.univ hx hm) kt) Q := by
  have hs : outSt m ρ c k.val k = ownsSat (c : Thread nD τ) (oM.slice (xR k) (fun _ => rfl)) fullShare (fun _ => True) := if_neg (Nat.lt_irrefl _)
  have hs' : outSt m ρ c (k.val + 1) k = owns (c : Thread nD τ) (oC k) fullShare (ov m ρ c k) := if_pos (Nat.lt_succ_self _)
  unfold St at *
  iintro ⟨#HR, HO, Hs, Hr, Hp, Ho, Hx⟩
  ihave Ho := (bigSep_univ_update k fun i hi => outSt_step m ρ c k.val k i rfl hi) $$ Ho
  icases Ho with ⟨Hj, Ho⟩
  ihave Hj := (Entails.of_eq hs) $$ Hj
  iapply (store_slice (F := F) c oM (xR k) (fun _ => rfl) (fun _ => True) v) $$ Hj
  iintro Hj
  ihave Ho := Ho $$ [Hj]
  · rw [hs', ← hv]; iexact Hj
  iapply h
  isplitr; · iexact HR
  isplitl [HO]; · iexact HO
  isplitl [Hs]; · iexact Hs
  isplitl [Hr]; · iexact Hr
  isplitl [Hp]; · iexact Hp
  isplitl [Ho] <;> iassumption

/-- The store of partial sum `k` and its transfer, `hi k`. -/
theorem send_hi {α : Type} {Q : α → sProp 𝕄} {r o : ℕ} (k : Fin 8) (n : Dev nD) (hn : n = peer (hi k) c)
    {v : (pR k).shape.Idx → Elt F .f32} (hv : shapeCast S32x256 v shapeCasts_S1x32x256_S32x256 = pv m ρ c k)
    {hx : (pM.access (pR k)).Stores Finset.univ} {hm : (Finset.univ : Finset (pR k).shape.Idx) = Finset.univ ∨ ∀ a, (pR k).stride a = 1}
    {src : Memref sig .tc .vmem S32x256 .f32} {dst : Memref sig (Dev.tc n : Thread nD τ).2.kind .vmem S32x256 .f32} {ss rs : DmaSem sig}
    (esrc : src = pC k) (edst : dst = qC (hi k)) (ess : ss = sS (hi k)) (ers : rs = rS (hi k))
    {hsc : dst.view.ref.isScScratch = false} {hsrc : src.view.WordExact} {hdst : dst.view.WordExact}
    {hsem : DmaTarget.Typed .vmem (.dma rs) (.remote (Dev.tc n : Thread nD τ) dst (.dma ss) hsc)}
    {kt : PUnit → Prog (TpuEff nD τ sig (Elt F) Λ₀ .tc) α} (h : St m ρ K c ((hi k).val + 1) r (k.val + 1) o 0 ⊢ Wp c (kt ⟨⟩) Q) :
    St m ρ K c (hi k).val r k.val o 0
      ⊢ Wp c (.op (.store pM (pR k) v Finset.univ hx hm) fun _ =>
          .op (.enqueueDma src (.remote (Dev.tc n : Thread nD τ) dst (.dma ss) hsc) (.dma rs) hsrc hdst hsem) kt) Q := by
  subst esrc edst ess ers
  have hs : sendSt m ρ c (hi k).val 0 (hi k) = iprop(atPos ER (sCell c (hi k)) 0 ∅ 0 ∗ toSend m ρ c (hi k)) := by
    unfold sendSt; rw [if_neg (Nat.not_lt_zero _), if_neg (Nat.lt_irrefl _)]
  have hs' : sendSt m ρ c ((hi k).val + 1) 0 (hi k) = iprop(atPos ER (sCell c (hi k)) 0 ∅ 0 ∗ cred (tallyAt (sCell c (hi k)) () N)) := by
    unfold sendSt; rw [if_neg (Nat.not_lt_zero _), if_pos (Nat.lt_succ_self _)]
  have hp : partSt m ρ c k.val k = ownsSat (c : Thread nD τ) (pC k) fullShare (fun _ => True) := if_neg (Nat.lt_irrefl _)
  have hp' : partSt m ρ c (k.val + 1) k = owns (c : Thread nD τ) (pC k) fullShare.left (pv m ρ c k) := if_pos (Nat.lt_succ_self _)
  unfold St toSend at *
  iintro ⟨#HR, ⟨%W, HO⟩, Hs, Hr, Hp, Hrest⟩
  ihave Hp := (bigSep_univ_update k fun i hi => partSt_step m ρ c k.val k i rfl hi) $$ Hp
  icases Hp with ⟨Hk, Hp⟩
  ihave Hk := (Entails.of_eq hp) $$ Hk
  iapply (store_squeezed (F := F) c pM (pR k) (fun _ => rfl) squeezes_S1x32x256_S32x256 (fun _ => True) shapeCasts_S1x32x256_S32x256 v) $$ Hk
  iintro Hk
  ihave Hk := (Entails.of_eq (congrArg (owns (c : Thread nD τ) (pC k) fullShare) hv)) $$ Hk
  ihave Hk := (owns_halves (c : Thread nD τ) (pC k) fullShare (pv m ρ c k)).1 $$ Hk
  icases Hk with ⟨Hl, Hsrc⟩
  ihave Hs := (bigSep_univ_update (hi k) fun i h => sendSt_start m ρ c (hi k).val 0 (hi k) i rfl h) $$ Hs
  icases Hs with ⟨Hj, Hs⟩
  ihave Hj := (Entails.of_eq hs) $$ Hj
  icases Hj with ⟨Hat, Ht₁, Ht₂, Hslot, -⟩
  iapply (wp_transfer m ρ K (hi k) n hn (pC k) fullShare.right (by rw [sendPay_hi, sv_hi]; unfold part; exact .rfl) W) $$ [HO Ht₁ Ht₂ Hslot Hsrc]
  · isplitr; · icases HR with ⟨HR, -⟩; iexact HR
    isplitl [Hsrc]; · rw [sv_hi]; iexact Hsrc
    isplitl [Hslot]; · iexact Hslot
    isplitl [HO]; · iexact HO
    isplitl [Ht₁] <;> iassumption
  iintro ⟨Hc, HO⟩
  iapply h
  isplitr; · iexact HR
  isplitl [HO]; · iexists W; iexact HO
  isplitl [Hs Hat Hc]
  · iapply Hs; rw [hs']; isplitl [Hat] <;> iassumption
  isplitl [Hr]; · iexact Hr
  isplitl [Hp Hl]
  · iapply Hp; rw [hp']; iexact Hl
  iexact Hrest

end Steps
end Cert.KernelIdeal.Pf
-- ==== Proof.KernelIdeal.Parts.lean ====
/-
# The kernel's parts

The printed body is cut into twenty parts. Each is run by the rules of `Steps`, from the state it meets to the state it leaves.
-/
module

public import proofs.«01_k».proof.Proof.KernelIdeal.Steps
public import proofs.«01_k».proof.Proof.Gen.KernelIdeal.Skeleton

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Ix → ℕ) {c : Dev nD}

/-! ## Two steps that come eight times -/

/-- Partial sum `k`, once its operands are received: the slot is read, the sum stored and sent on. -/
theorem sum_step {α : Type} {Q : α → sProp 𝕄} {o : ℕ} (k : Fin 8) {r : ℕ} (hr : (lo k).val < r) (n : Dev nD) (hn : n = peer (hi k) c)
    {g : FVec F S1x32x256 .f32 → FVec F S1x32x256 .f32}
    (hg : ∀ v, shapeCast S32x256 (g v) shapeCasts_S1x32x256_S32x256 = addf (xv m ρ c k) (shapeCast S32x256 v shapeCasts_S1x32x256_S32x256))
    {hlq : qM.view.LoadsAt (qR (lo k)).toLoadRect} {hlp : pM.view.LoadsAt (pR k).toLoadRect}
    {hx : (pM.access (pR k)).Stores Finset.univ} {hm : (Finset.univ : Finset (pR k).shape.Idx) = Finset.univ ∨ ∀ a, (pR k).stride a = 1}
    {src : Memref sig .tc .vmem S32x256 .f32} {dst : Memref sig (Dev.tc n : Thread nD τ).2.kind .vmem S32x256 .f32} {ss rs : DmaSem sig}
    (esrc : src = pC k) (edst : dst = qC (hi k)) (ess : ss = sS (hi k)) (ers : rs = rS (hi k))
    {hsc : dst.view.ref.isScScratch = false} {hsrc : src.view.WordExact} {hdst : dst.view.WordExact}
    {hsem : DmaTarget.Typed .vmem (.dma rs) (.remote (Dev.tc n : Thread nD τ) dst (.dma ss) hsc)}
    {kt : PUnit → Prog (TpuEff nD τ sig (Elt F) Λ₀ .tc) α} (h : St m ρ K c ((hi k).val + 1) r (k.val + 1) o 0 ⊢ Wp c (kt ⟨⟩) Q) :
    St m ρ K c (hi k).val r k.val o 0
      ⊢ Wp c (.op (.load qM (qR (lo k)).toLoadRect hlq) fun v : (qR (lo k)).shape.Idx → Elt F .f32 => .op (.load pM (pR k).toLoadRect hlp) fun _ =>
          .op (.store pM (pR k) (g v) Finset.univ hx hm) fun _ =>
          .op (.enqueueDma src (.remote (Dev.tc n : Thread nD τ) dst (.dma ss) hsc) (.dma rs) hsrc hdst hsem) kt) Q := by
  refine load_q m ρ K (lo k) hr fun v hv => load_p m ρ K k fun _ _ =>
    send_hi m ρ K k n hn ?_ esrc edst ess ers h
  rw [hg, hv, sv_lo]; rfl

/-- Chunk `k` of the result, once the second neighbour's partial sum is received. -/
theorem fin_step {α : Type} {Q : α → sProp 𝕄} {s p w : ℕ} (k : Fin 8) {r : ℕ} (hr : (hi k).val < r) {g : FVec F S1x32x256 .f32 → FVec F S32x256 .f32}
    (hg : ∀ v, g v = addf (pv m ρ c k) (shapeCast S32x256 v shapeCasts_S1x32x256_S32x256))
    {hlq : qM.view.LoadsAt (qR (hi k)).toLoadRect} {hlo : oM.view.LoadsAt (xR k).toLoadRect}
    {hx : (oM.access (xR k)).Stores Finset.univ} {hm : (Finset.univ : Finset (xR k).shape.Idx) = Finset.univ ∨ ∀ a, (xR k).stride a = 1}
    {kt : PUnit → Prog (TpuEff nD τ sig (Elt F) Λ₀ .tc) α} (h : St m ρ K c s r p (k.val + 1) w ⊢ Wp c (kt ⟨⟩) Q) :
    St m ρ K c s r p k.val w
      ⊢ Wp c (.op (.load qM (qR (hi k)).toLoadRect hlq) fun v : (qR (hi k)).shape.Idx → Elt F .f32 => .op (.load oM (xR k).toLoadRect hlo) fun _ =>
          .op (.store oM (xR k) (g v) Finset.univ hx hm) kt) Q := by
  refine load_q m ρ K (hi k) hr fun v hv => load_o m ρ K k le_rfl fun _ => store_o m ρ K k ?_ h
  rw [hg, hv, sv_hi]; rfl

/-- The sum a part stores, its first operand recast to its own shape. -/
theorem cast_add (x : FVec F S32x256 .f32) (v : FVec F S1x32x256 .f32) :
    shapeCast S32x256 (shapeCast S1x32x256 (addf (shapeCast S32x256 x shapeCasts_S32x256_S32x256)
        (shapeCast S32x256 v shapeCasts_S1x32x256_S32x256)) shapeCasts_S32x256_S1x32x256) shapeCasts_S1x32x256_S32x256
      = addf x (shapeCast S32x256 v shapeCasts_S1x32x256_S32x256) := by
  rw [shapeCast_shapeCast, shapeCast_self]

/-- A program that has returned. -/
theorem done {α : Type} {Q : α → sProp 𝕄} {P : sProp 𝕄} {v : α} (h : P ⊢ Q v) : P ⊢ Wp (F := F) c (.ret v) Q := by
  unfold Wp; rw [wp_ret]; exact h.trans fupd_intro

/-- A part is run on the staging buffers, the two scratch buffers and the semaphores. -/
abbrev onBufs {γ : Type 1} (f : (a₀ : Memref sig .tc .vmem S256x256 .f32) → a₀.IsWhole → (a₁ : Memref sig .tc .vmem S256x256 .f32) → a₁.IsWhole
    → (a₂ : Memref sig .tc .vmem S8x32x256 .f32) → a₂.IsWhole → (a₃ : Memref sig .tc .vmem S16x32x256 .f32) → a₃.IsWhole
    → DmaSems sig S16 → DmaSems sig S16 → γ) : γ :=
  f xM (Memref.isWhole_whole _) oM (Memref.isWhole_whole _) pM (Memref.isWhole_whole _) qM (Memref.isWhole_whole _) cc0_scratch2 cc0_scratch3

/-! ## The parts after the barrier -/

theorem part2_runs {Q : PUnit → sProp 𝕄} {v2 v5 v6 v7 : BitVec 32} (h : St m ρ K c 3 0 0 0 0 ⊢ Q ⟨⟩) :
    St m ρ K c 1 0 0 0 0 ⊢ Wp c (onBufs k0_part2 c v2 v5 v6 v7) Q := by
  unfold onBufs; rw [k0_part2_eq_skeleton]; unfold k0_part2_skel
  simp only [Prog.lift, Prog.bind_op, Prog.bind_ret, Prog.pure_eq_ret]
  refine send_lo m ρ K 1 _ (Fin.ext (k0_dev4_eq c)) rfl rfl rfl rfl ?_
  refine send_lo m ρ K 2 _ (Fin.ext (k0_dev5_eq c)) rfl rfl rfl rfl ?_
  exact done h

theorem part3_runs {Q : PUnit → sProp 𝕄} {v2 v5 v6 v7 : BitVec 32} (h : St m ρ K c 6 0 0 0 0 ⊢ Q ⟨⟩) :
    St m ρ K c 3 0 0 0 0 ⊢ Wp c (onBufs k0_part3 c v2 v5 v6 v7) Q := by
  unfold onBufs; rw [k0_part3_eq_skeleton]; unfold k0_part3_skel
  simp only [Prog.lift, Prog.bind_op, Prog.bind_ret, Prog.pure_eq_ret]
  refine send_lo m ρ K 3 _ (Fin.ext (k0_dev6_eq c)) rfl rfl rfl rfl ?_
  refine send_lo m ρ K 4 _ (Fin.ext (k0_dev7_eq c)) rfl rfl rfl rfl ?_
  refine send_lo m ρ K 5 _ (Fin.ext (k0_dev8_eq c)) rfl rfl rfl rfl ?_
  exact done h

theorem part4_runs {Q : FVec F S32x256 .f32 → sProp 𝕄} {v2 v5 v6 v7 : BitVec 32} (h : St m ρ K c 8 1 0 0 0 ⊢ Q (xv m ρ c 0)) :
    St m ρ K c 6 0 0 0 0 ⊢ Wp c (onBufs k0_part4 c v2 v5 v6 v7) Q := by
  unfold onBufs; rw [k0_part4_eq_skeleton]; unfold k0_part4_skel
  simp only [Prog.lift, Prog.bind_op, Prog.bind_ret, Prog.pure_eq_ret]
  refine send_lo m ρ K 6 _ (Fin.ext (k0_dev9_eq c)) rfl rfl rfl rfl ?_
  refine send_lo m ρ K 7 _ (Fin.ext (k0_dev10_eq c)) rfl rfl rfl rfl ?_
  refine wait_recv m ρ K 0 (by decide) (by decide) (credit_q 0) rfl ?_
  refine load_x m ρ K 0 ?_
  exact done (by unfold k0_pay1; rw [shapeCast_self]; exact h)

theorem part5_runs {Q : FVec F S32x256 .f32 → sProp 𝕄} {v5 v7 : BitVec 32} (h : St m ρ K c 9 2 1 0 0 ⊢ Q (xv m ρ c 1)) :
    St m ρ K c 8 1 0 0 0 ⊢ Wp c (onBufs k0_part5 c v5 v7 (xv m ρ c 0)) Q := by
  unfold onBufs; rw [k0_part5_eq_skeleton]; unfold k0_part5_skel
  simp only [Prog.lift, Prog.bind_op, Prog.bind_ret, Prog.pure_eq_ret]
  refine sum_step m ρ K 0 (by decide) _ (Fin.ext (k0_dev11_eq c)) (fun v => shapeCast_shapeCast _ _ _) rfl rfl rfl rfl ?_
  refine wait_recv m ρ K 1 (by decide) (by decide) (credit_q 1) rfl ?_
  refine load_x m ρ K 1 ?_
  exact done (by unfold k0_pay3; rw [shapeCast_self]; exact h)

theorem part6_runs {Q : FVec F S32x256 .f32 → sProp 𝕄} {v2 v6 : BitVec 32} (h : St m ρ K c 10 3 2 0 0 ⊢ Q (xv m ρ c 2)) :
    St m ρ K c 9 2 1 0 0 ⊢ Wp c (onBufs k0_part6 c v2 v6 (xv m ρ c 1)) Q := by
  unfold onBufs; rw [k0_part6_eq_skeleton]; unfold k0_part6_skel
  simp only [Prog.lift, Prog.bind_op, Prog.bind_ret, Prog.pure_eq_ret]
  refine sum_step m ρ K 1 (by decide) _ (Fin.ext (k0_dev12_eq c)) (fun v => shapeCast_shapeCast _ _ _) rfl rfl rfl rfl ?_
  refine wait_recv m ρ K 2 (by decide) (by decide) (credit_q 2) rfl ?_
  refine load_x m ρ K 2 ?_
  exact done (by unfold k0_pay5; rw [shapeCast_self]; exact h)

theorem part7_runs {Q : FVec F S32x256 .f32 → sProp 𝕄} {v5 v7 : BitVec 32} (h : St m ρ K c 11 4 3 0 0 ⊢ Q (xv m ρ c 3)) :
    St m ρ K c 10 3 2 0 0 ⊢ Wp c (onBufs k0_part7 c v5 v7 (xv m ρ c 2)) Q := by
  unfold onBufs; rw [k0_part7_eq_skeleton]; unfold k0_part7_skel
  simp only [Prog.lift, Prog.bind_op, Prog.bind_ret, Prog.pure_eq_ret]
  refine sum_step m ρ K 2 (by decide) _ (Fin.ext (k0_dev13_eq c)) (fun v => shapeCast_shapeCast _ _ _) rfl rfl rfl rfl ?_
  refine wait_recv m ρ K 3 (by decide) (by decide) (credit_q 3) rfl ?_
  refine load_x m ρ K 3 ?_
  exact done (by unfold k0_pay7; rw [shapeCast_self]; exact h)

theorem part8_runs {Q : FVec F S32x256 .f32 → sProp 𝕄} {v2 v6 : BitVec 32} (h : St m ρ K c 12 5 4 0 0 ⊢ Q (xv m ρ c 4)) :
    St m ρ K c 11 4 3 0 0 ⊢ Wp c (onBufs k0_part8 c v2 v6 (xv m ρ c 3)) Q := by
  unfold onBufs; rw [k0_part8_eq_skeleton]; unfold k0_part8_skel
  simp only [Prog.lift, Prog.bind_op, Prog.bind_ret, Prog.pure_eq_ret]
  refine sum_step m ρ K 3 (by decide) _ (Fin.ext (k0_dev14_eq c)) (fun v => shapeCast_shapeCast _ _ _) rfl rfl rfl rfl ?_
  refine wait_recv m ρ K 4 (by decide) (by decide) (credit_q 4) rfl ?_
  refine load_x m ρ K 4 ?_
  exact done h

theorem part9_runs {Q : PUnit → sProp 𝕄} {v5 v7 : BitVec 32} (h : St m ρ K c 13 6 5 0 0 ⊢ Q ⟨⟩) :
    St m ρ K c 12 5 4 0 0 ⊢ Wp c (onBufs k0_part9 c v5 v7 (xv m ρ c 4)) Q := by
  unfold onBufs; rw [k0_part9_eq_skeleton]; unfold k0_part9_skel
  simp only [Prog.lift, Prog.bind_op, Prog.bind_ret, Prog.pure_eq_ret]
  refine sum_step m ρ K 4 (by decide) _ (Fin.ext (k0_dev15_eq c)) (fun v => cast_add _ v) rfl rfl rfl rfl ?_
  refine wait_recv m ρ K 5 (by decide) (by decide) (credit_q 5) rfl ?_
  exact done h

theorem part10_runs {Q : PUnit → sProp 𝕄} {v2 v6 : BitVec 32} (h : St m ρ K c 14 7 6 0 0 ⊢ Q ⟨⟩) :
    St m ρ K c 13 6 5 0 0 ⊢ Wp c (onBufs k0_part10 c v2 v6) Q := by
  unfold onBufs; rw [k0_part10_eq_skeleton]; unfold k0_part10_skel
  simp only [Prog.lift, Prog.bind_op, Prog.bind_ret, Prog.pure_eq_ret]
  refine load_x m ρ K 5 ?_
  refine sum_step m ρ K 5 (by decide) _ (Fin.ext (k0_dev16_eq c)) (fun v => cast_add _ v) rfl rfl rfl rfl ?_
  refine wait_recv m ρ K 6 (by decide) (by decide) (credit_q 6) rfl ?_
  exact done h

theorem part11_runs {Q : PUnit → sProp 𝕄} {v5 v7 : BitVec 32} (h : St m ρ K c 15 8 7 0 0 ⊢ Q ⟨⟩) :
    St m ρ K c 14 7 6 0 0 ⊢ Wp c (onBufs k0_part11 c v5 v7) Q := by
  unfold onBufs; rw [k0_part11_eq_skeleton]; unfold k0_part11_skel
  simp only [Prog.lift, Prog.bind_op, Prog.bind_ret, Prog.pure_eq_ret]
  refine load_x m ρ K 6 ?_
  refine sum_step m ρ K 6 (by decide) _ (Fin.ext (k0_dev17_eq c)) (fun v => cast_add _ v) rfl rfl rfl rfl ?_
  refine wait_recv m ρ K 7 (by decide) (by decide) (credit_q 7) rfl ?_
  exact done h

theorem part12_runs {Q : PUnit → sProp 𝕄} {v2 v5 v6 v7 : BitVec 32} (h : St m ρ K c 16 8 8 0 0 ⊢ Q ⟨⟩) :
    St m ρ K c 15 8 7 0 0 ⊢ Wp c (onBufs k0_part12 c v2 v5 v6 v7) Q := by
  unfold onBufs; rw [k0_part12_eq_skeleton]; unfold k0_part12_skel
  simp only [Prog.lift, Prog.bind_op, Prog.bind_ret, Prog.pure_eq_ret]
  refine load_x m ρ K 7 ?_
  refine sum_step m ρ K 7 (by decide) _ (Fin.ext (k0_dev18_eq c)) (fun v => cast_add _ v) rfl rfl rfl rfl ?_
  exact done h

theorem part13_runs {Q : BitVec 32 → sProp 𝕄} {v2 v6 : BitVec 32} (h : St m ρ K c 16 10 8 2 0 ⊢ Q 2#32) :
    St m ρ K c 16 8 8 0 0 ⊢ Wp c (onBufs k0_part13 v2 v6) Q := by
  unfold onBufs; rw [k0_part13_eq_skeleton]; unfold k0_part13_skel
  simp only [Prog.lift, Prog.bind_op, Prog.bind_ret, Prog.pure_eq_ret]
  refine wait_recv m ρ K 8 (by decide) (by decide) (credit_q 8) rfl ?_
  refine load_p m ρ K 0 fun v hv => fin_step m ρ K 0 (by decide) (fun u => congrArg (addf · _) (hv (by decide))) ?_
  refine wait_recv m ρ K 9 (by decide) (by decide) (credit_q 9) rfl ?_
  refine load_p m ρ K 1 fun v hv => fin_step m ρ K 1 (by decide) (fun u => congrArg (addf · _) (hv (by decide))) ?_
  exact done h

theorem part14_runs {Q : FVec F S32x256 .f32 → sProp 𝕄} {v2 v5 v6 v7 u : BitVec 32} (h : St m ρ K c 16 12 8 3 0 ⊢ Q (pv m ρ c 3)) :
    St m ρ K c 16 10 8 2 0 ⊢ Wp c (onBufs k0_part14 v2 v5 v6 v7 u) Q := by
  unfold onBufs; rw [k0_part14_eq_skeleton]; unfold k0_part14_skel
  simp only [Prog.lift, Prog.bind_op, Prog.bind_ret, Prog.pure_eq_ret]
  refine wait_recv m ρ K 10 (by decide) (by decide) (credit_q 10) rfl ?_
  refine load_p m ρ K 2 fun v hv => fin_step m ρ K 2 (by decide) (fun u => congrArg (addf · _) (hv (by decide))) ?_
  refine wait_recv m ρ K 11 (by decide) (by decide) (credit_q 11) rfl ?_
  refine load_p m ρ K 3 fun v hv => ?_
  exact done (by unfold k0_pay16; rw [hv (by decide)]; exact h)

theorem part15_runs {Q : PUnit → sProp 𝕄} {v2 v5 v6 v7 : BitVec 32} (h : St m ρ K c 16 13 8 5 0 ⊢ Q ⟨⟩) :
    St m ρ K c 16 12 8 3 0 ⊢ Wp c (onBufs k0_part15 v2 v5 v6 v7 (pv m ρ c 3)) Q := by
  unfold onBufs; rw [k0_part15_eq_skeleton]; unfold k0_part15_skel
  simp only [Prog.lift, Prog.bind_op, Prog.bind_ret, Prog.pure_eq_ret]
  refine fin_step m ρ K 3 (by decide) (fun u => rfl) ?_
  refine wait_recv m ρ K 12 (by decide) (by decide) (credit_q 12) rfl ?_
  refine load_p m ρ K 4 fun v hv => fin_step m ρ K 4 (by decide) (fun u => congrArg (addf · _) (hv (by decide))) ?_
  exact done h

theorem part16_runs {Q : PUnit → sProp 𝕄} {v5 v7 : BitVec 32} (h : St m ρ K c 16 15 8 7 0 ⊢ Q ⟨⟩) :
    St m ρ K c 16 13 8 5 0 ⊢ Wp c (onBufs k0_part16 v5 v7) Q := by
  unfold onBufs; rw [k0_part16_eq_skeleton]; unfold k0_part16_skel
  simp only [Prog.lift, Prog.bind_op, Prog.bind_ret, Prog.pure_eq_ret]
  refine wait_recv m ρ K 13 (by decide) (by decide) (credit_q 13) rfl ?_
  refine load_p m ρ K 5 fun v hv => fin_step m ρ K 5 (by decide) (fun u => congrArg (addf · _) (hv (by decide))) ?_
  refine wait_recv m ρ K 14 (by decide) (by decide) (credit_q 14) rfl ?_
  refine load_p m ρ K 6 fun v hv => fin_step m ρ K 6 (by decide) (fun u => congrArg (addf · _) (hv (by decide))) ?_
  exact done h

theorem part17_runs {Q : PUnit → sProp 𝕄} {v2 v6 : BitVec 32} (h : St m ρ K c 16 16 8 8 1 ⊢ Q ⟨⟩) :
    St m ρ K c 16 15 8 7 0 ⊢ Wp c (onBufs k0_part17 v2 v6) Q := by
  unfold onBufs; rw [k0_part17_eq_skeleton]; unfold k0_part17_skel
  simp only [Prog.lift, Prog.bind_op, Prog.bind_ret, Prog.pure_eq_ret]
  refine wait_recv m ρ K 15 (by decide) (by decide) (credit_q 15) rfl ?_
  refine load_p m ρ K 7 fun v hv => fin_step m ρ K 7 (by decide) (fun u => congrArg (addf · _) (hv (by decide))) ?_
  refine wait_send m ρ K 0 (credit_x 0) rfl ?_
  exact done h

theorem part18_runs {Q : PUnit → sProp 𝕄} (h : St m ρ K c 16 16 8 8 5 ⊢ Q ⟨⟩) :
    St m ρ K c 16 16 8 8 1 ⊢ Wp c (onBufs k0_part18) Q := by
  unfold onBufs; rw [k0_part18_eq_skeleton]; unfold k0_part18_skel
  simp only [Prog.lift, Prog.bind_op, Prog.bind_ret, Prog.pure_eq_ret]
  refine wait_send m ρ K 1 (credit_x 1) rfl ?_
  refine wait_send m ρ K 2 (credit_x 2) rfl ?_
  refine wait_send m ρ K 3 (credit_x 3) rfl ?_
  refine wait_send m ρ K 4 (credit_x 4) rfl ?_
  exact done h

theorem part19_runs {Q : PUnit → sProp 𝕄} (h : St m ρ K c 16 16 8 8 9 ⊢ Q ⟨⟩) :
    St m ρ K c 16 16 8 8 5 ⊢ Wp c (onBufs k0_part19) Q := by
  unfold onBufs; rw [k0_part19_eq_skeleton]; unfold k0_part19_skel
  simp only [Prog.lift, Prog.bind_op, Prog.bind_ret, Prog.pure_eq_ret]
  refine wait_send m ρ K 5 (credit_x 5) rfl ?_
  refine wait_send m ρ K 6 (credit_x 6) rfl ?_
  refine wait_send m ρ K 7 (credit_x 7) rfl ?_
  refine wait_send m ρ K 8 (credit_p 0) rfl ?_
  exact done h

theorem part20_runs {Q : PUnit → sProp 𝕄} (h : St m ρ K c 16 16 8 8 13 ⊢ Q ⟨⟩) :
    St m ρ K c 16 16 8 8 9 ⊢ Wp c (onBufs k0_part20) Q := by
  unfold onBufs; rw [k0_part20_eq_skeleton]; unfold k0_part20_skel
  simp only [Prog.lift, Prog.bind_op, Prog.bind_ret, Prog.pure_eq_ret]
  refine wait_send m ρ K 9 (credit_p 1) rfl ?_
  refine wait_send m ρ K 10 (credit_p 2) rfl ?_
  refine wait_send m ρ K 11 (credit_p 3) rfl ?_
  refine wait_send m ρ K 12 (credit_p 4) rfl ?_
  exact done h

end Cert.KernelIdeal.Pf
-- ==== Proof.KernelIdeal.Buffers.lean ====
/-
# The buffers, whole and in chunks

Each buffer of a device is the conjunction of its chunks: the block of `x` and the result of eight, the partial sums of eight,
the landing buffer of sixteen.
-/
module

public import proofs.«01_k».proof.Proof.KernelIdeal.Proto

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- Rectangles that meet every index cover. -/
theorem covers {s : Shape} {T : Type} [Fintype T] {R : T → Rect s} (h : ∀ i, ∃ t, i ∈ (R t).set) :
    (Finset.univ : Finset T).biUnion (fun t => (R t).set) = Finset.univ :=
  Finset.eq_univ_iff_forall.mpr fun i => (h i).elim fun t ht => Finset.mem_biUnion.mpr ⟨t, Finset.mem_univ _, ht⟩

/-- The whole result: on chunk `k` it is `ov m ρ c k`. -/
def outFinal : (cc0_stg1_0 : Ref sig .tc).ty.Contents (Elt F) := Rect.glue xR (covers xR_cover) fun k => ov m ρ c k
theorem outFinal_at (k : Fin 8) (i : S32x256.Idx) : outFinal m ρ c ((xR k).emb i) = ov m ρ c k i :=
  Rect.glue_emb xR (covers xR_cover) xR_disj (fun k => ov m ρ c k) k i

/-- The two half shares of a chunk of `x`, and of a partial sum. -/
theorem chunk_halves (k : Fin 8) : (owns (c : Thread nD τ) (xC k) fullShare (xv m ρ c k) : sProp 𝕄)
    ⊣⊢ iprop(chunk m ρ c k fullShare.left ∗ chunk m ρ c k fullShare.right) :=
  owns_halves (Val := Elt F) (c : Thread nD τ) (xC k) fullShare (xv m ρ c k)
theorem part_halves (k : Fin 8) : (part m ρ c k fullShare : sProp 𝕄)
    ⊣⊢ iprop(part m ρ c k fullShare.left ∗ part m ρ c k fullShare.right) :=
  owns_halves (Val := Elt F) (c : Thread nD τ) (pC k) fullShare (pv m ρ c k)
theorem part_forget (k : Fin 8) : (part m ρ c k fullShare : sProp 𝕄) ⊢ partAny c k :=
  ownsSat_intro (Val := Elt F) (c : Thread nD τ) (pC k) fullShare (Φ := fun _ => True) (X := pv m ρ c k) trivial
theorem slot_forget (j : Fin 16) : (slot m ρ c j : sProp 𝕄) ⊢ slotAny c j :=
  ownsSat_intro (Val := Elt F) (c : Thread nD τ) (qC j) fullShare (Φ := fun _ => True) (X := sv m ρ (peer j c) j) trivial

/-- The block of `x`, cut into chunks, each at two half shares; -/
theorem x_split : (owns (c : Thread nD τ) xM fullShare (xstg m ρ c) : sProp 𝕄)
    ⊢ iprop(bigSep Finset.univ (fun k => chunk m ρ c k fullShare.left) ∗ bigSep Finset.univ fun k => chunk m ρ c k fullShare.right) := by
  rw [← bigSep_sep']
  exact (owns_rects (c : Thread nD τ) xM fullShare xR (fun _ _ => rfl) xR_disj (covers xR_cover) (xstg m ρ c)).trans
    (bigSep_mono fun k _ => (chunk_halves m ρ c k).1)
/-- and put together again. -/
theorem x_join : iprop(bigSep Finset.univ (fun k => chunk m ρ c k fullShare.left) ∗ bigSep Finset.univ fun k => chunk m ρ c k fullShare.right)
    ⊢ (owns (c : Thread nD τ) xM fullShare (xstg m ρ c) : sProp 𝕄) := by
  rw [← bigSep_sep']
  exact (bigSep_mono fun k _ => (chunk_halves m ρ c k).2).trans
    (owns_of_rects (c : Thread nD τ) xM fullShare xR (fun _ _ => rfl) xR_disj (covers xR_cover) (xstg m ρ c))

/-- The result's buffer, cut into chunks; -/
theorem out_split (X : (cc0_stg1_0 : Ref sig .tc).ty.Contents (Elt F)) :
    (owns (c : Thread nD τ) oM fullShare X : sProp 𝕄) ⊢ bigSep Finset.univ fun k => outAny c k :=
  (owns_rects (c : Thread nD τ) oM fullShare xR (fun _ _ => rfl) xR_disj (covers xR_cover) X).trans
    (bigSep_mono fun k _ => ownsSat_intro (c : Thread nD τ) (oC k) fullShare trivial)
/-- put together from its chunks. -/
theorem out_join : (bigSep Finset.univ fun k => outAt m ρ c k) ⊢ (owns (c : Thread nD τ) oM fullShare (outFinal m ρ c) : sProp 𝕄) :=
  (bigSep_mono fun k _ => Entails.of_eq (congrArg (owns (c : Thread nD τ) (oC k) fullShare) (funext fun i => (outFinal_at m ρ c k i).symm))).trans
    (owns_of_rects (c : Thread nD τ) oM fullShare xR (fun _ _ => rfl) xR_disj (covers xR_cover) (outFinal m ρ c))

section Scratch

variable {T : Type} [Fintype T] [DecidableEq T]

/-- Of a memref and the one that drops its unit dimension, to own one at whatever contents is to own the other. -/
theorem squeeze_any {sp : Space} {s s' : Shape} {e : EltTy} (M : Memref sig .tc sp s e) (hq : s.Squeezes s') (q : PosShare TreeShare) :
    (ownsSat (c : Thread nD τ) (M.squeeze s' hq) q (fun _ => True) : sProp 𝕄) = ownsSat (c : Thread nD τ) M q (fun _ => True) := by
  unfold ownsSat; rw [Memref.set_view_squeeze]

/-- A memref at whatever contents is its parts at whatever contents. -/
theorem any_split {sp : Space} {s : Shape} {e : EltTy} (M : Memref sig .tc sp s e) (R : T → Rect s) (hr : ∀ t a, (R t).stride a = 1)
    (hd : ∀ t t', t ≠ t' → Disjoint (R t).set (R t').set) (hc : ∀ i, ∃ t, i ∈ (R t).set) :
    (ownsSat (c : Thread nD τ) M fullShare (fun _ => True) : sProp 𝕄)
      ⊣⊢ bigSep Finset.univ fun t => ownsSat (c : Thread nD τ) (M.slice (R t) (hr t)) fullShare (fun _ => True) :=
  ⟨(ownsSat_mono (c : Thread nD τ) M fullShare fun _ _ _ => trivial).trans
      (ownsSat_rects (c : Thread nD τ) M fullShare R hr hd (covers hc) fun _ _ => True),
    (ownsSat_of_rects (c : Thread nD τ) M fullShare R hr hd (covers hc) fun _ _ => True).trans
      (ownsSat_mono (c : Thread nD τ) M fullShare fun _ _ => trivial)⟩

/-- A whole buffer at whatever contents. -/
theorem any_whole (b : Ref sig .tc) : (ownsSat (c : Thread nD τ) (Memref.whole b) fullShare (fun _ => True) : sProp 𝕄)
    ⊣⊢ iprop(∃ f : Buf (Elt F) ((c : Thread nD τ).loc b), ((c : Thread nD τ).loc b) ↦{fullShare} f) := by
  have e : (fun X => owns (c : Thread nD τ) (Memref.whole b) fullShare X : _ → sProp 𝕄) = fun f => ((c : Thread nD τ).loc b) ↦{fullShare} f :=
    funext fun f => owns_whole (c : Thread nD τ) b fullShare f
  have h := ownsSat_true (c : Thread nD τ) (Memref.whole b) fullShare (Val := Elt F) (Ix := Unit) (Name := ℕ) (U := UU) (Lvl := ℕ)
  rw [e] at h; exact h

end Scratch

/-- The buffer of the partial sums is its eight chunks; -/
theorem part_bufs : iprop(∃ f : Buf (Elt F) ((c : Thread nD τ).loc cc0_scratch0), ((c : Thread nD τ).loc cc0_scratch0) ↦{fullShare} f)
    ⊣⊢ (bigSep Finset.univ fun k => partAny c k : sProp 𝕄) := by
  have h := any_split (F := F) c pM pR (fun _ _ => rfl) pR_disj pR_cover
  have e : (bigSep Finset.univ fun k => partAny c k : sProp 𝕄) = bigSep Finset.univ fun k => ownsSat (c : Thread nD τ) (pS k) fullShare (fun _ => True) :=
    bigSep_congr fun k _ => squeeze_any c (pS k) squeezes_S1x32x256_S32x256 fullShare
  rw [e]
  exact ⟨(any_whole c cc0_scratch0).2.trans h.1, h.2.trans (any_whole c cc0_scratch0).1⟩
/-- the landing buffer is its sixteen slots. -/
theorem slot_bufs : iprop(∃ f : Buf (Elt F) ((c : Thread nD τ).loc cc0_scratch1), ((c : Thread nD τ).loc cc0_scratch1) ↦{fullShare} f)
    ⊣⊢ (bigSep Finset.univ fun j => slotAny c j : sProp 𝕄) := by
  have h := any_split (F := F) c qM qR (fun _ _ => rfl) qR_disj qR_cover
  have e : (bigSep Finset.univ fun j => slotAny c j : sProp 𝕄) = bigSep Finset.univ fun j => ownsSat (c : Thread nD τ) (qS j) fullShare (fun _ => True) :=
    bigSep_congr fun j _ => squeeze_any c (qS j) squeezes_S1x32x256_S32x256 fullShare
  rw [e]
  exact ⟨(any_whole c cc0_scratch1).2.trans h.1, h.2.trans (any_whole c cc0_scratch1).1⟩

/-- A family over the sixteen transfers is its chunks-of-`x` half and its partial-sums half. -/
theorem bigSep_lo_hi (Φ : Fin 16 → sProp 𝕄) :
    bigSep Finset.univ Φ = iprop(bigSep Finset.univ (fun k => Φ (lo k)) ∗ bigSep Finset.univ fun k => Φ (hi k)) := by
  rw [bigSep_univ_equiv (finSumFinEquiv : Fin 8 ⊕ Fin 8 ≃ Fin 16) Φ, bigSep_univ_sum]
  have e (k : Fin 8) : finSumFinEquiv (Sum.inr k : Fin 8 ⊕ Fin 8) = hi k := Fin.ext (show 8 + k.val = k.val + 8 by omega)
  have e' (k : Fin 8) : finSumFinEquiv (Sum.inl k : Fin 8 ⊕ Fin 8) = lo k := Fin.ext rfl
  simp only [e, e']; rfl

/-- The partial sums' buffer, from both shares of every partial sum. -/
theorem part_join : iprop(bigSep Finset.univ (fun k => part m ρ c k fullShare.left) ∗ bigSep Finset.univ fun k => part m ρ c k fullShare.right)
    ⊢ iprop(∃ f : Buf (Elt F) ((c : Thread nD τ).loc cc0_scratch0), ((c : Thread nD τ).loc cc0_scratch0) ↦{fullShare} f) := by
  refine BI.Entails.trans ?_ (part_bufs c).2
  rw [← bigSep_sep']
  exact bigSep_mono fun k _ => (part_halves m ρ c k).2.trans (part_forget m ρ c k)
/-- The landing buffer, from every received slot. -/
theorem slot_join : (bigSep Finset.univ fun j => slot m ρ c j)
    ⊢ iprop(∃ f : Buf (Elt F) ((c : Thread nD τ).loc cc0_scratch1), ((c : Thread nD τ).loc cc0_scratch1) ↦{fullShare} f) :=
  (bigSep_mono fun j _ => slot_forget m ρ c j).trans (slot_bufs c).2

/-- What all sends give back: the right shares of the chunks of `x` and of the partial sums. -/
theorem sends_back : (bigSep Finset.univ fun j => sendPay m ρ c j)
    = iprop(bigSep Finset.univ (fun k => chunk m ρ c k fullShare.right) ∗ bigSep Finset.univ fun k => part m ρ c k fullShare.right) := by
  rw [bigSep_lo_hi]; simp only [sendPay_lo, sendPay_hi]

end Cert.KernelIdeal.Pf
-- ==== Proof.KernelIdeal.Body.lean ====
/-
# The kernel's body

From what a device holds at its launch, through the barrier and the twenty parts, to what it hands back.
-/
module

public import proofs.«01_k».proof.Proof.KernelIdeal.Parts
public import proofs.«01_k».proof.Proof.KernelIdeal.Buffers
public import proofs.«01_k».proof.Proof.Gen.KernelIdeal.Launch
public import proofs.«01_k».proof.Proof.Gen.KernelIdeal.Points

@[expose] public section

set_option maxRecDepth 8000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ix → ℕ) {c : Dev nD}

/-! ## The state before any transfer, and after all -/

/-- The two sides, one by one. -/
theorem bigSep_sides (Φ : Bool → sProp 𝕄) : bigSep Finset.univ Φ = iprop(Φ true ∗ Φ false) := by
  rw [show (Finset.univ : Finset Bool) = insert true {false} from rfl, bigSep_insert (by decide), bigSep_singleton]; rfl

theorem sends_start : iprop(bigSep Finset.univ (fun j => atPos ER (sCell c j) 0 ∅ 0) ∗ bigSep Finset.univ (fun j => dutyTok ER (sCell c j) 0 false)
      ∗ bigSep Finset.univ (fun j => dutyTok ER (rCell (peer j c) j) 0 false) ∗ bigSep Finset.univ (fun j => slotAny (peer j c) j)
      ∗ bigSep Finset.univ fun k => chunk m ρ c k fullShare.right)
    ⊢ bigSep Finset.univ (sendSt m ρ c 0 0) := by
  have e : sendSt m ρ c 0 0 = fun j => iprop(atPos ER (sCell c j) 0 ∅ 0 ∗ dutyTok ER (sCell c j) 0 false ∗ dutyTok ER (rCell (peer j c) j) 0 false
      ∗ slotAny (F := F) (peer j c) j ∗ if j.val < 8 then sendPay m ρ c j else emp) := funext fun j => by
    unfold sendSt toSend; rw [if_neg (Nat.not_lt_zero _), if_neg (Nat.not_lt_zero _)]
  have hx : (bigSep Finset.univ fun k => chunk m ρ c k fullShare.right) ⊢ bigSep Finset.univ fun j : Fin 16 => if j.val < 8 then sendPay m ρ c j else iprop(emp) := by
    rw [bigSep_lo_hi]
    have e₁ : (fun k : Fin 8 => if (lo k).val < 8 then sendPay m ρ c (lo k) else iprop(emp)) = fun k => chunk m ρ c k fullShare.right :=
      funext fun k => by rw [if_pos (show (lo k).val < 8 from k.isLt), sendPay_lo]
    have e₂ : (fun k : Fin 8 => if (hi k).val < 8 then sendPay m ρ c (hi k) else (iprop(emp) : sProp 𝕄)) = fun _ => iprop(emp) :=
      funext fun k => if_neg (show ¬ k.val + 8 < 8 by omega)
    rw [e₁, e₂]
    iintro H; isplitl; · iexact H
    iapply (BI.bigSep_of_persistent Finset.univ (iprop(emp) : sProp 𝕄)); iempintro
  rw [e]
  simp only [bigSep_sep']
  iintro ⟨H₁, H₂, H₃, H₄, H₅⟩
  isplitl [H₁]; · iexact H₁
  isplitl [H₂]; · iexact H₂
  isplitl [H₃]; · iexact H₃
  isplitl [H₄]; · iexact H₄
  iapply hx; iexact H₅

theorem recvs_start : iprop(bigSep Finset.univ (fun j => atPos ER (rCell c j) 0 ∅ 0) ∗ bigSep Finset.univ (fun j => cred (tallyAt (rCell c j) () N)))
    ⊢ bigSep Finset.univ (recvSt m ρ c 0) := by
  have e : recvSt m ρ c 0 = fun j => iprop(atPos ER (rCell c j) 0 ∅ 0 ∗ cred (tallyAt (rCell c j) () N)) := funext fun j => by
    unfold recvSt; rw [if_neg (Nat.not_lt_zero _)]
  rw [e, bigSep_sep']

theorem sends_end : (bigSep Finset.univ (sendSt m ρ c 16 16))
    ⊢ iprop(bigSep Finset.univ (fun j => semVal (sCell c j) 0) ∗ bigSep Finset.univ (fun k => chunk m ρ c k fullShare.right)
      ∗ bigSep Finset.univ fun k => part m ρ c k fullShare.right) := by
  have e : sendSt m ρ c 16 16 = fun j => iprop(semVal (sCell c j) 0 ∗ sendPay m ρ c j) := funext fun j => by
    unfold sendSt; rw [if_pos j.isLt]
  rw [e, bigSep_sep', sends_back]

theorem recvs_end : (bigSep Finset.univ (recvSt m ρ c 16))
    ⊢ iprop(bigSep Finset.univ (fun j => semVal (rCell c j) 0) ∗ bigSep Finset.univ fun j => slot m ρ c j) := by
  have e : recvSt m ρ c 16 = fun j => iprop(semVal (rCell c j) 0 ∗ slot m ρ c j) := funext fun j => by
    unfold recvSt; rw [if_pos j.isLt]
  rw [e, bigSep_sep']

theorem parts_start : partSt m ρ c 0 = fun k => partAny c k := funext fun k => if_neg (Nat.not_lt_zero _)
theorem parts_end : partSt m ρ c 8 = fun k => part m ρ c k fullShare.left := funext fun k => if_pos k.isLt
theorem outs_start : outSt m ρ c 0 = fun k => outAny c k := funext fun k => if_neg (Nat.not_lt_zero _)
theorem outs_end : outSt m ρ c 8 = fun k => outAt m ρ c k := funext fun k => if_pos k.isLt

/-! ## What a device holds at its launch -/

/-- Its positions and the tokens it pays with. -/
def ghost (c : Dev nD) : sProp 𝕄 :=
  iprop(records m ρ K ∗ atPos ER (barCell c) 0 ∅ 0 ∗ bigSep Finset.univ (fun j => atPos ER (sCell c j) 0 ∅ 0)
    ∗ bigSep Finset.univ (fun j => atPos ER (rCell c j) 0 ∅ 0)
    ∗ dutyTok ER (barCell (nb false c)) 0 false ∗ dutyTok ER (barCell (nb true c)) 0 true
    ∗ bigSep Finset.univ (fun j => dutyTok ER (sCell c j) 0 false) ∗ bigSep Finset.univ fun j => dutyTok ER (rCell (peer j c) j) 0 false)

/-- The credits its neighbours' signals and transfers will bring. -/
def credits (c : Dev nD) : sProp 𝕄 :=
  iprop(cred (tallyAt (barCell c) () 2) ∗ bigSep Finset.univ fun j => cred (tallyAt (rCell c j) () N))

/-- The two scratch buffers at whatever contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def start (c : Dev nD) : sProp 𝕄 := iprop((∃ K, ghost m ρ K c) ∗ credits c ∗ levAts L lv)
def Φ₀ (c : Dev nD) : sProp 𝕄 := iprop(start m ρ c ∗ scratch c)
/-- At the end its buffers and every semaphore at zero. -/
def Φ₁ (c : Dev nD) : sProp 𝕄 :=
  iprop(scratch (F := F) c ∗ bigSep Finset.univ (fun j => semVal (sCell c j) 0) ∗ bigSep Finset.univ (fun j => semVal (rCell c j) 0) ∗ semVal (barCell c) 0)

/-- What the body meets, and what it leaves. -/
def pre (c : Dev nD) (X : (cc0_stg1_0 : Ref sig .tc).ty.Contents (Elt F)) : sProp 𝕄 :=
  iprop(ghost m ρ K c ∗ credits c ∗ levAts L lv ∗ scratch c ∗ (∃ W, owes (c : Thread nD τ) (O₀ c) W)
    ∗ owns (c : Thread nD τ) xM fullShare (xstg m ρ c) ∗ owns (c : Thread nD τ) oM fullShare X)
def post (c : Dev nD) : sProp 𝕄 :=
  iprop(Φ₁ (F := F) c ∗ (∃ W, owes (c : Thread nD τ) 0 W)
    ∗ owns (c : Thread nD τ) xM fullShare (xstg m ρ c) ∗ owns (c : Thread nD τ) oM fullShare (outFinal m ρ c))

/-! ## The barrier -/

/-- One signal to neighbour `d`'s barrier, which pays side `d` of it with the slots that neighbour writes. -/
theorem signal {α : Type} {Q : α → sProp 𝕄} (d : Bool) (n : Dev nD) (hn : n = nb d c) (O O' : CellTallies nD τ sig Unit)
    (hO : O = O' + tallyAt (barCell (nb d c)) () 1) {κ : ℕ} (W : Waits sig Unit)
    {kt : PUnit → Prog (TpuEff nD τ sig (Elt F) Λ₀ .tc) α} :
    iprop(records m ρ K ∗ owes (c : Thread nD τ) O W ∗ dutyTok ER (barCell (nb d c)) 0 d ∗ barPay (nb d c) d)
      ⊢ iprop((owes (c : Thread nD τ) O' W -∗ Wp c (kt ⟨⟩) Q) -∗ Wp c (.op (.semSignal (n : Thread nD τ) barS 1) kt) Q) := by
  subst hn
  iintro ⟨#HR, HO, Ht, Hp⟩ Hk
  ihave H := (records_at (F := F) m ρ K (nb d c) (.inl ())) $$ HR
  icases H with ⟨Hi, Hr⟩
  iapply (Rounds.wp_signal 𝒱₀ ER (Rd m ρ) (c : Thread nD τ) none (dst := (nb d c : Thread nD τ)) (κ := K (nb d c, .inl ()))
      (d := d) (by rw [duties_bar]; exact Finset.mem_univ _) (amount_bar m ρ (nb d c) d) () O' hO) $$ [HO Ht Hp Hi Hr]
  · isplitl [Hi]; · iexact Hi
    isplitl [HO]; · iexact HO
    isplitl [Ht]; · iexact Ht
    isplitl [Hp]; · rw [payload_bar]; iexact Hp
    iexact Hr
  iexact Hk

theorem part1_runs {Q : (Σ' (d0 : Dev nD) (v2 : BitVec 32) (v5 : BitVec 32) (v6 : BitVec 32), BitVec 32) → sProp 𝕄}
    (X : (cc0_stg1_0 : Ref sig .tc).ty.Contents (Elt F))
    (h : ∀ v2 v5 v6 v7, St m ρ K c 1 0 0 0 0 ⊢ Q ⟨c, v2, v5, v6, v7⟩) : pre m ρ K c X ⊢ Wp c (onBufs k0_part1) Q := by
  unfold onBufs; rw [k0_part1_eq_skeleton]; unfold k0_part1_skel
  simp only [semSignalWord, semWaitWord, Prog.lift, Prog.bind_op, Prog.bind_ret, Prog.pure_eq_ret, wp_deviceId]
  unfold pre ghost credits scratch
  iintro ⟨⟨#HR, HatB, HatS, HatV, HtF, HtT, HtS, HtV⟩, ⟨HcB, HcV⟩, #Hlev, ⟨Hp, Hq⟩, ⟨%W, HO⟩, Hx, Ho⟩
  ihave Hq := (slot_bufs (F := F) c).1 $$ Hq
  ihave Hq := (Entails.of_eq (barGives (F := F) c).symm) $$ Hq
  ihave Hq := (Entails.of_eq (bigSep_sides fun d => barPay (F := F) (nb d c) d)) $$ Hq
  icases Hq with ⟨HqT, HqF⟩
  iapply (signal m ρ K false _ (Fin.ext (k0_dev1_eq c)) (O₀ c) (O₁ c) rfl (κ := 0) W) $$ [HO HtF HqF]
  · isplitr; · iexact HR
    isplitl [HO]; · iexact HO
    isplitl [HtF] <;> iassumption
  iintro HO
  iapply (signal m ρ K true _ (Fin.ext (k0_dev2_eq c)) (O₁ c) (OR c 0) rfl (κ := 0) W) $$ [HO HtT HqT]
  · isplitr; · iexact HR
    isplitl [HO]; · iexact HO
    isplitl [HtT] <;> iassumption
  iintro HO
  ihave #H := (records_at (F := F) m ρ K c (.inl ())) $$ HR
  icases H with ⟨#Hi, -⟩
  iapply (Rounds.wp_wait_rest_token 𝒱₀ ER (Rd m ρ) (c : Thread nD τ) none (κ := K (c, .inl ()))
      (wpE_semWait_eq 𝒱₀ (c : Thread nD τ) none Set.univ) (Set.mem_univ _) () (O := OR c 0) (W := W) (R := 0) (m := 0) (T := ∅)
      (full_cell m ρ c (.inl ())).symm) $$ [HcB HO HatB]
  · isplitr; · iexact Hi
    isplitl [HcB]; · iexact HcB
    isplitl [HO]; · iexact HO
    isplitr; · iapply (mayWait_bar c); iexact Hlev
    iexact HatB
  iintro ⟨HO, HatB, -, Hpay⟩
  ihave Hs := (Entails.of_eq ((collect_cell m ρ c (.inl ())).trans (barPays (F := F) c))) $$ Hpay
  imod (Rounds.cell_close ER (Rd m ρ) (Set.mem_univ (K (c, .inl ()))) (fun h => h) (R := 0 + 1) (no_more m ρ (barCell c))) $$ [HatB] with HzB
  · isplitr; · iexact Hi
    iexact HatB
  ihave Hx := (x_split m ρ c) $$ Hx
  icases Hx with ⟨Hxl, Hxr⟩
  iapply (send_lo m ρ K 0 _ (Fin.ext (k0_dev3_eq c)) rfl rfl rfl rfl (done (h _ _ _ _)))
  unfold St
  isplitr; · imodintro; isplitr; · iexact HR
             iexact Hlev
  isplitl [HO]; · iexists _; iexact HO
  isplitl [HatS HtS HtV Hs Hxr]
  · iapply (sends_start m ρ)
    isplitl [HatS]; · iexact HatS
    isplitl [HtS]; · iexact HtS
    isplitl [HtV]; · iexact HtV
    isplitl [Hs] <;> iassumption
  isplitl [HatV HcV]; · iapply (recvs_start m ρ); isplitl [HatV] <;> iassumption
  isplitl [Hp]; · rw [parts_start]; iapply (part_bufs (F := F) c).1; iexact Hp
  isplitl [Ho]; · rw [outs_start]; iapply (out_split c X); iexact Ho
  isplitl [Hxl] <;> iassumption

/-! ## The end -/

theorem finish : St m ρ K c 16 16 8 8 16 ⊢ post m ρ c := by
  unfold St post Φ₁ scratch
  rw [OR_end, parts_end, outs_end]
  iintro ⟨-, HO, Hs, Hr, Hp, Ho, Hx, Hz⟩
  ihave Hs := (sends_end m ρ) $$ Hs
  icases Hs with ⟨Hzs, Hxr, Hpr⟩
  ihave Hr := (recvs_end m ρ) $$ Hr
  icases Hr with ⟨Hzr, Hq⟩
  isplitl [Hp Hpr Hq Hzs Hzr Hz]
  · isplitl [Hp Hpr Hq]
    · isplitl [Hp Hpr]
      · iapply (part_join m ρ c); isplitl [Hp] <;> iassumption
      · iapply (slot_join m ρ c); iexact Hq
    isplitl [Hzs]; · iexact Hzs
    isplitl [Hzr] <;> iassumption
  isplitl [HO]; · iexact HO
  isplitl [Hx Hxr]
  · iapply (x_join m ρ c); isplitl [Hx] <;> iassumption
  iapply (out_join m ρ c); iexact Ho

/-- The body runs from what it meets to what it leaves. -/
theorem body_runs (X : (cc0_stg1_0 : Ref sig .tc).ty.Contents (Elt F)) : pre m ρ K c X ⊢ Wp c (onBufs cc0_body) fun _ => post m ρ c := by
  unfold onBufs; rw [cc0_body_eq_skeleton]; unfold cc0_body_skel Wp
  rw [wp_bind]; refine part1_runs m ρ K X fun v2 v5 v6 v7 => ?_
  rw [wp_bind]; refine part2_runs m ρ K ?_
  rw [wp_bind]; refine part3_runs m ρ K ?_
  rw [wp_bind]; refine part4_runs m ρ K ?_
  rw [wp_bind]; refine part5_runs m ρ K ?_
  rw [wp_bind]; refine part6_runs m ρ K ?_
  rw [wp_bind]; refine part7_runs m ρ K ?_
  rw [wp_bind]; refine part8_runs m ρ K ?_
  rw [wp_bind]; refine part9_runs m ρ K ?_
  rw [wp_bind]; refine part10_runs m ρ K ?_
  rw [wp_bind]; refine part11_runs m ρ K ?_
  rw [wp_bind]; refine part12_runs m ρ K ?_
  rw [wp_bind]; refine part13_runs m ρ K ?_
  rw [wp_bind]; refine part14_runs m ρ K ?_
  rw [wp_bind]; refine part15_runs m ρ K ?_
  rw [wp_bind]; refine part16_runs m ρ K ?_
  rw [wp_bind]; refine part17_runs m ρ K ?_
  rw [wp_bind]; refine part18_runs m ρ K ?_
  rw [wp_bind]; refine part19_runs m ρ K ?_
  rw [wp_bind]; refine part20_runs m ρ K ?_
  simp only [Prog.lift, Prog.bind_op, Prog.bind_ret, Prog.pure_eq_ret]
  refine wait_send m ρ K 13 (credit_p 5) rfl ?_
  refine wait_send m ρ K 14 (credit_p 6) rfl ?_
  refine wait_send m ρ K 15 (credit_p 7) rfl ?_
  exact done (finish m ρ K)

/-! ## The body as the launch asks for it -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outFinal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 2)).fetch t = true := by rw [fin_N0 t]; rfl

/-- The launch's obligation for the body. -/
theorem body_obligation (c : Dev nD) : BodyObligation (dats (F := F) m ρ 0 c) (defs₀ (F := F)) 𝒱₀ () Set.univ := fun t => by
  have hx (d) : (dats m ρ 0 c).before (0 : Fin 2) t0_0 d = xstg m ρ c := by unfold Dat.before; rw [if_pos (fetch_x t0_0)]; rfl
  have ht : t = t0_0 := fin_N0 t
  subst ht
  rw [bigSep_W0, bigSep_W0]
  show iprop(Φ₀ m ρ c ∗ (dats m ρ 0 c).owesAt () t0_0.castSucc
      ∗ (∃ d, owns (c : Thread nD τ) xM fullShare ((dats m ρ 0 c).before (0 : Fin 2) t0_0 d))
      ∗ (∃ d, owns (c : Thread nD τ) oM fullShare ((dats m ρ 0 c).before (1 : Fin 2) t0_0 d)))
    ⊢ Wp c (onBufs cc0_body) fun _ => iprop(Φ₁ c ∗ (dats m ρ 0 c).owesAt () t0_0.succ
      ∗ owns (c : Thread nD τ) xM fullShare (xstg m ρ c) ∗ owns (c : Thread nD τ) oM fullShare (outFinal m ρ c))
  unfold Φ₀ start Dat.owesAt Pipeline.owesWithin
  simp only [hx]
  iintro ⟨⟨⟨⟨%K, Hg⟩, Hc, Hl⟩, Hs⟩, ⟨%W, -, HO⟩, ⟨%d₀, Hx⟩, ⟨%d₁, Ho⟩⟩
  iapply (((body_runs (c := c) m ρ K ((dats m ρ 0 c).before (1 : Fin 2) t0_0 d₁))).trans (wp_mono _ _ _ fun _ => ?hpost))
  case hpost =>
    unfold post
    iintro ⟨HΦ, ⟨%W', HO⟩, Hx, Ho⟩
    isplitl [HΦ]; · iexact HΦ
    isplitl [HO]
    · iexists W'; isplitr; · ipureintro; exact fun _ _ => Or.inl trivial
      iexact HO
    isplitl [Hx] <;> iassumption
  unfold pre
  isplitl [Hg]; · iexact Hg
  isplitl [Hc]; · iexact Hc
  isplitl [Hl]; · iexact Hl
  isplitl [Hs]; · iexact Hs
  isplitl [HO]; · iexists W; iexact HO
  isplitl [Hx] <;> iassumption

end Cert.KernelIdeal.Pf
-- ==== Proof.KernelIdeal.Launch.lean ====
/-
# The launch

The devices' cells are set up, their tokens dealt to whoever pays with them, and the run of the whole mesh follows from the
body's.
-/
module

public import proofs.«01_k».proof.Proof.KernelIdeal.Body
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: those of its sends and of its receives. -/
abbrev osem (i : Fin 16 ⊕ Fin 16) : SemLoc sig := csem (.inr i)

theorem ownSemFacts : Pipeline.OwnSemFacts cfg0.spec osem where
  isScoped := by decide
  inj := fun a b h => Sum.inr.inj (csem_inj h)
  disj := fun i w s h => by
    have h' := (dec_csem (.inr i)).symm.trans (congrArg dec h)
    fin_cases w <;> fin_cases s <;> cases h'

theorem share_eq (c : Dev nD) (w : Fin cfg0.W) : (dats m ρ 0 c).share w = fullShare := by unfold Dat.share; split <;> rfl

/-! ## Cells and tokens -/

def kCells : Finset (GSem nD τ sig) := Finset.univ.map ⟨kcell, kcell_inj⟩

/-- A token per cell and side; only the barrier's cells have two that are used. -/
abbrev tokOf (x : (Dev nD × Ix) × Bool) : GSem nD τ sig × ℕ × Bool := (kcell x.1, 0, x.2)
theorem tokOf_inj : Function.Injective tokOf := fun a b h =>
  Prod.ext (kcell_inj (congrArg Prod.fst h)) (congrArg (fun y => y.2.2) h)
def kToks : Finset (GSem nD τ sig × ℕ × Bool) := Finset.univ.map ⟨tokOf, tokOf_inj⟩

def u₀ : UU := (initOf (Pipeline.cells cfgs cellOf_inj) (Pipeline.launchToks cfgs cellOf_inj), initOf kCells kToks)

/-- The tokens of a device's own cells. -/
def toks (c : Dev nD) : sProp 𝕄 := bigSep Finset.univ fun i : Ix => bigSep Finset.univ fun d => dutyTok ER (kcell (c, i)) 0 d

/-- A device's share of the launch. -/
def G (c : Dev nD) : sProp 𝕄 :=
  iprop((bigSep Finset.univ fun i : Ix => roundState ER (Rd m ρ) (kcell (c, i)) 0)
    ∗ (bigSep Finset.univ fun i : Ix => iprop(atPos ER (kcell (c, i)) 0 ∅ 0 ∗ reached ER (kcell (c, i)) 0)) ∗ toks c)
/-- What the device's body starts from. -/
def G' (c : Dev nD) : sProp 𝕄 := iprop(∃ K, ghost m ρ K c)

theorem fund_cells : BI.own (ER (initOf kCells kToks)) ⊢ (|==> bigSep Finset.univ (G m ρ) : sProp 𝕄) := by
  have hX (Φ : GSem nD τ sig → sProp 𝕄) : bigSep kCells Φ = bigSep Finset.univ fun c : Dev nD => bigSep Finset.univ fun i : Ix => Φ (kcell (c, i)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks toks; rw [bigSep_map, bigSep_univ_prod, bigSep_univ_prod]; rfl
  iintro HX
  imod (Rounds.fund ER (Rd m ρ) kCells kToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]; · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over two kinds of thing is one over each. -/
theorem bigSep_either {A B : Type} [Fintype A] [Fintype B] (Φ : A ⊕ B → sProp 𝕄) :
    bigSep Finset.univ Φ = iprop(bigSep Finset.univ (fun a => Φ (.inl a)) ∗ bigSep Finset.univ fun b => Φ (.inr b)) := bigSep_univ_sum Φ

/-- A family over a device's cells is the barrier's, the send cells' and the receive cells'. -/
theorem bigSep_cells (Φ : Ix → sProp 𝕄) : bigSep Finset.univ Φ
    = iprop(Φ (.inl ()) ∗ bigSep Finset.univ (fun j => Φ (.inr (.inl j))) ∗ bigSep Finset.univ fun j => Φ (.inr (.inr j))) := by
  rw [bigSep_either, bigSep_univ_of_subsingleton (), bigSep_either]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Ix => semVal (kcell (c, i)) 0 : sProp 𝕄) := by
  rw [unscopedSems0_eq, bigSep_either, bigSep_univ_of_subsingleton ()]
  unfold Pipeline.ownSems0
  iintro ⟨Ho, Hb⟩
  isplitl [Hb] <;> iassumption

/-- On each device the cells' invariants are allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) := by
  have ha : iprop((bigSep Finset.univ fun i : Ix => semVal (kcell (c, i)) 0) ∗ bigSep Finset.univ fun i : Ix => roundState ER (Rd m ρ) (kcell (c, i)) 0)
      ⊢ (|={Set.univ}=> bigSep Finset.univ fun i => iprop(∃ κ : ℕ, cellInv ER (Rd m ρ) κ (kcell (c, i))) : sProp 𝕄) := by
    rw [← bigSep_sep']
    exact (bigSep_mono fun i _ => (Rounds.body_intro ER (Rd m ρ) (kcell (c, i))).trans inv_alloc).trans (bigSep_fupd _ _)
  unfold G
  iintro ⟨Hos, Hus, Hst, Hat, Htok⟩
  ihave Hv := (sems0_eq (F := F) c) $$ [Hos Hus]
  · isplitl [Hos] <;> iassumption
  imod ha $$ [Hv Hst] with Hinv
  · isplitl [Hv] <;> iassumption
  imodintro
  isplitl [Hinv]; · iexact Hinv
  isplitl [Hat] <;> iassumption

/-! ## The tokens, dealt to who pays with them -/

/-- The pairs of a device and a transfer, each turned to the peer's. -/
def peerPerm : Dev nD × Fin 16 ≃ Dev nD × Fin 16 where
  toFun x := (peer x.2 x.1, x.2)
  invFun x := (peer x.2 x.1, x.2)
  left_inv x := Prod.ext (peer_peer x.2 x.1) rfl
  right_inv x := Prod.ext (peer_peer x.2 x.1) rfl

/-- The tokens a device pays with. -/
def payToks (c : Dev nD) : sProp 𝕄 :=
  iprop(dutyTok ER (barCell (nb false c)) 0 false ∗ dutyTok ER (barCell (nb true c)) 0 true
    ∗ bigSep Finset.univ (fun j => dutyTok ER (sCell c j) 0 false) ∗ bigSep Finset.univ fun j => dutyTok ER (rCell (peer j c) j) 0 false)

/-- Of both tokens of each of a family of cells, the one that is used. -/
theorem bigSep_one (g : Fin 16 → GSem nD τ sig) : (bigSep Finset.univ fun j => bigSep Finset.univ fun d => (dutyTok ER (g j) 0 d : sProp 𝕄))
    ⊢ bigSep Finset.univ fun j => dutyTok ER (g j) 0 false :=
  bigSep_mono fun j _ => bigSep_elim (Φ := fun d => (dutyTok ER (g j) 0 d : sProp 𝕄)) (Finset.mem_univ false)

theorem toks_own (c : Dev nD) : (toks c : sProp 𝕄) ⊢ iprop(dutyTok ER (barCell c) 0 false ∗ dutyTok ER (barCell c) 0 true
    ∗ bigSep Finset.univ (fun j => dutyTok ER (sCell c j) 0 false) ∗ bigSep Finset.univ fun j => dutyTok ER (rCell c j) 0 false) := by
  unfold toks; rw [bigSep_cells, bigSep_sides]
  iintro ⟨⟨Ht, Hf⟩, Hs, Hr⟩
  isplitl [Hf]; · iexact Hf
  isplitl [Ht]; · iexact Ht
  isplitl [Hs]
  · iapply (bigSep_one fun j => sCell c j); iexact Hs
  · iapply (bigSep_one fun j => rCell c j); iexact Hr

theorem toks_dealt : (bigSep Finset.univ fun c : Dev nD => (toks c : sProp 𝕄)) ⊢ bigSep Finset.univ fun c : Dev nD => payToks c := by
  refine BI.Entails.trans (bigSep_mono fun c _ => toks_own c) ?_
  unfold payToks
  simp only [bigSep_sep']
  rw [bigSep_univ_equiv (nbPerm false) (fun c : Dev nD => (dutyTok ER (barCell c) 0 false : sProp 𝕄)),
    bigSep_univ_equiv (nbPerm true) (fun c : Dev nD => (dutyTok ER (barCell c) 0 true : sProp 𝕄)),
    ← bigSep_univ_prod (fun x : Dev nD × Fin 16 => (dutyTok ER (rCell x.1 x.2) 0 false : sProp 𝕄)),
    ← bigSep_univ_prod (fun x : Dev nD × Fin 16 => (dutyTok ER (rCell (peer x.2 x.1) x.2) 0 false : sProp 𝕄)),
    bigSep_univ_equiv peerPerm (fun x : Dev nD × Fin 16 => (dutyTok ER (rCell x.1 x.2) 0 false : sProp 𝕄))]
  exact BI.Entails.refl _

/-- A persistent fact serves every element of a family. -/
theorem bigSep_using {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  have e : bigSep S (fun i => iprop(R ∗ Φ i)) ⊢ bigSep S Ψ := bigSep_mono fun i _ => h i
  rw [bigSep_sep'] at e
  iintro ⟨HR, H⟩
  iapply e
  isplitl [HR]
  · iapply (BI.bigSep_of_persistent S R); iexact HR
  · iexact H

theorem ghost_intro (K : Dev nD × Ix → ℕ) (c : Dev nD) :
    iprop(records m ρ K ∗ bigSep Finset.univ (fun i : Ix => atPos ER (kcell (c, i)) 0 ∅ 0) ∗ payToks c) ⊢ G' m ρ c := by
  unfold payToks G' ghost
  rw [bigSep_cells]
  iintro ⟨#HR, ⟨HaB, HaS, HaV⟩, HtF, HtT, HtS, HtV⟩
  iexists K
  isplitr; · iexact HR
  isplitl [HaB]; · iexact HaB
  isplitl [HaS]; · iexact HaS
  isplitl [HaV]; · iexact HaV
  isplitl [HtF]; · iexact HtF
  isplitl [HtT]; · iexact HtT
  isplitl [HtS] <;> iassumption

theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  simp only [bigSep_sep']
  rw [← bigSep_univ_prod (fun ck : Dev nD × Ix => iprop(∃ κ : ℕ, cellInv ER (Rd m ρ) κ (kcell ck))),
    ← bigSep_univ_prod (fun ck : Dev nD × Ix => (reached ER (kcell ck) 0 : sProp 𝕄))]
  iintro ⟨HI, ⟨Hat, #HR⟩, Htok⟩
  ihave HK := (BI.bigSep_exists_pi Finset.univ (fun (ck : Dev nD × Ix) (κ : ℕ) => (cellInv ER (Rd m ρ) κ (kcell ck) : sProp 𝕄))) $$ HI
  icases HK with ⟨%K, #HI⟩
  ihave Htk := (toks_dealt (F := F)) $$ Htok
  iapply (bigSep_using (R := records m ρ K) fun c => ghost_intro m ρ K c)
  isplitr
  · unfold records record; rw [bigSep_sep']
    isplitl; · iexact HI
    iexact HR
  · rw [bigSep_sep']; isplitl [Hat] <;> iassumption

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem cell_eq {a b : Dev nD} {i i' : Ix} (h : (((a : Thread nD τ), csem i) : GSem nD τ sig) = ((b : Thread nD τ), csem i')) : a = b ∧ i = i' := by
  have := kcell_inj (a₁ := (a, i)) (a₂ := (b, i')) h
  exact ⟨congrArg Prod.fst this, congrArg Prod.snd this⟩

theorem OR_zero_bar (d c : Dev nD) : OR d 0 (barCell c) () = 0 := by
  by_contra h
  obtain ⟨j, -, e⟩ := OR_pos (Nat.pos_of_ne_zero h)
  exact absurd (cell_eq (i := .inl ()) (i' := .inr (.inr j)) e).2 (by simp)

theorem OR_zero_recv (d c : Dev nD) (j : Fin 16) : OR d 0 (rCell c j) () = if d = peer j c then N else 0 := by
  unfold OR
  rw [Finset.sum_apply, Finsupp.finset_sum_apply, Finset.sum_eq_single j]
  · rw [if_pos (Nat.zero_le _), tallyAt_apply]
    by_cases h : d = peer j c
    · subst h; rw [peer_peer, if_pos ⟨rfl, rfl⟩, if_pos rfl]
    · rw [if_neg h, if_neg]
      rintro ⟨e, -⟩
      exact h (by rw [(cell_eq (i := .inr (.inr j)) (i' := .inr (.inr j)) e).1, peer_peer])
  · intro j' _ hj
    rw [if_pos (Nat.zero_le _), tallyAt_apply, if_neg]
    rintro ⟨e, -⟩
    exact hj (Sum.inr.inj (Sum.inr.inj (cell_eq (i := .inr (.inr j)) (i' := .inr (.inr j')) e).2)).symm
  · exact fun h => absurd (Finset.mem_univ j) h

/-- One signal's due at a barrier cell. -/
theorem owed_signal (s : Bool) (d c : Dev nD) : (tallyAt (barCell (nb s d)) () 1 : CellTallies nD τ sig Unit) (barCell c) () = if d = nb s c then 1 else 0 := by
  rw [tallyAt_apply]
  by_cases h : d = nb s c
  · subst h; rw [nb_nb, if_pos ⟨rfl, rfl⟩, if_pos rfl]
  · rw [if_neg h, if_neg]
    rintro ⟨e, -⟩
    exact h (by rw [(cell_eq (i := .inl ()) (i' := .inl ()) e).1, nb_nb])

theorem owed_bar (d c : Dev nD) : O₀ d (barCell c) () = (if d = nb true c then 1 else 0) + (if d = nb false c then 1 else 0) := by
  unfold O₀ O₁
  rw [Pi.add_apply, Finsupp.add_apply, Pi.add_apply, Finsupp.add_apply, OR_zero_bar, owed_signal, owed_signal, Nat.zero_add]

theorem owed_recv (d c : Dev nD) (j : Fin 16) : O₀ d (rCell c j) () = if d = peer j c then N else 0 := by
  have h (s : Bool) : (tallyAt (barCell (nb s d)) () 1 : CellTallies nD τ sig Unit) (rCell c j) () = 0 := by
    rw [tallyAt_apply, if_neg]
    rintro ⟨e, -⟩
    exact absurd (cell_eq (i := .inr (.inr j)) (i' := .inl ()) e).2 (by simp)
  unfold O₀ O₁
  rw [Pi.add_apply, Finsupp.add_apply, Pi.add_apply, Finsupp.add_apply, OR_zero_recv, h, h]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1, if_pos (Finset.mem_univ _), if_pos (Finset.mem_univ _)]

theorem launch_recv (c : Dev nD) (j : Fin 16) :
    tallyOn (rCell c j) (launchCredit (Pipeline.owing O₀) 0 (rCell c j)) = (tallyAt (rCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer j c) fun _ => N,
    if_pos (Finset.mem_univ _)]

theorem creds (c : Dev nD) : (Pipeline.launchCred O₀ c : sProp 𝕄) ⊢ credits c := by
  let Φ (sm : SemLoc sig) : sProp 𝕄 := cred (tallyOn ((c : Thread nD τ), sm) (launchCredit (Pipeline.owing O₀) 0 ((c : Thread nD τ), sm)))
  have hb : Φ (csem (.inl ())) = cred (tallyAt (barCell c) () 2) := congrArg cred (launch_bar c)
  have hr : (fun j => Φ (csem (.inr (.inr j)))) = fun j => cred (tallyAt (rCell c j) () N) := funext fun j => congrArg cred (launch_recv c j)
  have e : bigSep (Finset.univ.map ⟨csem, csem_inj⟩) Φ = iprop(Φ (csem (.inl ())) ∗ bigSep Finset.univ (fun j => Φ (csem (.inr (.inl j))))
      ∗ bigSep Finset.univ fun j => Φ (csem (.inr (.inr j)))) := (bigSep_map _).trans (bigSep_cells fun i => Φ (csem i))
  unfold Pipeline.launchCred credits
  iintro H
  have sub : iprop(bigSep Finset.univ Φ) ⊢ bigSep (Finset.univ.map ⟨csem, csem_inj⟩) Φ :=
    bigSep_subset (Φ := Φ) (Finset.subset_univ (Finset.univ.map ⟨csem, csem_inj⟩))
  ihave H := sub $$ H
  ihave H := (Entails.of_eq e) $$ H
  icases H with ⟨Hb, -, Hr⟩
  isplitl [Hb]
  · rw [← hb]; iexact Hb
  · rw [← hr]; iexact Hr

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0 scratch
  rw [bigSep_either]
  iintro ⟨Hr, Hs, Hv, Hb⟩
  isplitl [Hb]; · iexact Hb
  isplitl [Hs Hv]; · isplitl [Hs] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

set_option maxRecDepth 8000 in
/-- From any memory with every semaphore at zero, every weakly fair execution on the four devices ends, each array then holds
    what the write-backs made of it, and every semaphore is at zero. -/
theorem run_main : θ_run defs (onTc (τ := τ) (main (F := F))) (s₀ m ρ) (fun r =>
    (∀ (c : Dev nD) (w : Fin cfg0.W), r.2.mem ((cfg0.win w).arr.view.loc (c : Thread nD τ)) = (dats m ρ 0 c).arrAt w cfg0.N)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Pf
-- ==== Proof.KernelIdeal.Result.lean ====
/-
# The result's array

The grid has one point and each window is its whole array, so what the body leaves in the result's staging buffer is what
the array holds at the end, and the fetched block of `x` is the device's array of `x`.
-/
module

public import proofs.«01_k».proof.Proof.KernelIdeal.Launch
public import proofs.«01_k».proof.Proof.Gen.KernelIdeal.Points
public import Idealize.ShloMosaic.Lib.VecWindow

@[expose] public section

noncomputable section

namespace Cert.KernelIdeal.Pf

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The fetched block is the device's array of `x`. -/
theorem xstg_eq (c : Dev nD) : xstg m ρ c = m ((c : Thread nD τ).loc main_arg0) := by
  funext y
  exact congrArg (m ((c : Thread nD τ).loc main_arg0)) (Rect.emb_unit_full (s := S256x256) _ y)

/-- What is written back is the result, whole. -/
theorem flushed_out (c : Dev nD) (t : Fin cfg0.N) :
    (dats m ρ 0 c).flushed (1 : Fin 2) t = ((cfg0.win (1 : Fin 2)).blk t).view.read (Elt F) (outFinal m ρ c) := by
  rw [fin_N0 t]
  funext y
  exact (congrArg (outFinal m ρ c) (Rect.emb_unit_full (s := S256x256) _ y)).symm

/-- Every index of the array is written back. -/
theorem out_covered (i : S256x256.Idx) : ∃ t : Fin cfg0.N, (cfg0.win (1 : Fin 2)).flush t = true ∧ i ∈ ((cfg0.win (1 : Fin 2)).blk t).view.set :=
  ⟨t0_0, flush0_1 t0_0, by
    have h := ((cfg0.win (1 : Fin 2)).blk t0_0).view.emb_mem_set i
    rwa [show ((cfg0.win (1 : Fin 2)).blk t0_0).view.emb i = i from Rect.emb_unit_full (s := S256x256) _ i] at h⟩

/-- The result's array ends as the chunks `ov`, put together. -/
theorem out_end (c : Dev nD) : (dats m ρ 0 c).arrAt (1 : Fin 2) cfg0.N = outFinal m ρ c :=
  (dats m ρ 0 c).arrAt_eq_of_cover (1 : Fin 2) (outFinal m ρ c) (fun t _ => flushed_out m ρ c t) out_covered

/-- The run, on the two arrays: the argument is unchanged, the result is `outFinal`. -/
theorem run_value : θ_run defs (onTc (τ := τ) (main (F := F))) ⟨m, fun _ => 0, ρ⟩ (fun r =>
    (∀ c : Dev nD, r.2.mem ((c.tc : Thread nD τ).loc main_v1) = outFinal m ρ c
      ∧ r.2.mem ((c.tc : Thread nD τ).loc main_arg0) = m ((c.tc : Thread nD τ).loc main_arg0)) ∧ r.2.sem = fun _ => 0) :=
  (θ_run defs _ _).mono (fun r ⟨arrays, sems⟩ =>
    ⟨fun c => ⟨(arrays c (1 : Fin 2)).trans (out_end m ρ c), (arrays c (0 : Fin 2)).trans ((dats m ρ 0 c).arrAt_in (0 : Fin 2) rfl _)⟩, sems⟩)
    (run_main m ρ)

end Cert.KernelIdeal.Pf
-- ==== Proof.KernelSum.lean ====
/-
# What the kernel computes, over the extended reals

Every device ends with the sum of the four devices' blocks: it adds its own and one neighbour's, gets the same sum of the
other two devices from its other neighbour, and adds that. Which neighbour comes first depends on the chunk, and the sum does not.
-/
module

public import proofs.«01_k».proof.Proof.KernelIdeal.Result
public import Idealize.ShloMosaic.PureOps.Ideal
public import Idealize.ShloMosaic.Lib.ValueIdx

@[expose] public section

noncomputable section

namespace Cert.KernelIdeal.Pf

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The two transfers of a chunk go to different neighbours. -/
theorem side_hi (k : Fin 8) : side (hi k) = !side (lo k) := by revert k; decide

/-- The four devices, met by one step to a neighbour and then one to the other, are all of them. -/
theorem sum_two_steps (f : Dev nD → EReal) (b : Bool) (c : Dev nD) :
    (f c + f (nb b c)) + (f (nb (!b) c) + f (nb b (nb (!b) c))) = ∑ d : Dev nD, f d := by
  have h (x y z w : Dev nD) (hu : (Finset.univ : Finset (Dev nD)) = {x, y, z, w}) (hxy : x ∉ ({y, z, w} : Finset (Dev nD)))
      (hyz : y ∉ ({z, w} : Finset (Dev nD))) (hzw : z ∉ ({w} : Finset (Dev nD))) : (f x + f y) + (f z + f w) = ∑ d : Dev nD, f d := by
    rw [hu, Finset.sum_insert hxy, Finset.sum_insert hyz, Finset.sum_insert hzw, Finset.sum_singleton, add_assoc]
  exact h _ _ _ _ (by revert b c; decide) (by revert b c; decide) (by revert b c; decide) (by revert b c; decide)

/-- An element of device `d`'s block of `x`. -/
def blockAt (i : S256x256.Idx) (d : Dev nD) : EReal := m ((d : Thread nD τ).loc main_arg0) i

/-- Each element of the result is the sum of the four devices' elements of `x` at that place. -/
theorem outFinal_sum (c : Dev nD) (i : S256x256.Idx) :
    outFinal m ρ c i = ∑ d : Dev nD, blockAt m i d := by
  obtain ⟨k, hk⟩ := xR_cover i
  obtain ⟨y, hy⟩ := (xR k).exists_idx_of_mem hk
  obtain rfl : (xR k).emb y = i := hy
  rw [outFinal_at, ← sum_two_steps (blockAt m ((xR k).emb y)) (side (lo k)) c, ← side_hi]
  unfold blockAt
  simp only [← xstg_eq m ρ]
  rfl

end Cert.KernelIdeal.Pf
-- ==== Proof.RefSum.lean ====
/-
# What the reference computes

The reference views the 512×512 array as a 2×256×2×256 one and sums over its first and third axes: an element of the
result is the sum of the four elements at the same place in the four 256×256 blocks.
-/
module

public import proofs.«01_k».proof.Proof.Gen.ReferenceIdeal.Run
public import Idealize.ShloMosaic.Lib.IdealHost
public import Idealize.ShloMosaic.Lib.Pointwise.Reduce
public import Idealize.ShloMosaic.Lib.Pipeline.Value

@[expose] public section

noncomputable section

namespace Cert.ReferenceIdeal.Blocks

open Cert.ReferenceIdeal Cert.ReferenceIdeal.Gen
open Idealize.ShloMosaic Idealize.ShloMosaic.ValueIdx

/-- The place of element `i` of block `(a, b)` in the whole array. -/
def place (i : S256x256.Idx) (a b : Fin 2) : S512x512.Idx :=
  ValueIdx.ix2 ⟨256 * a.val + (i 0).val, by have : (i 0).val < 256 := (i 0).isLt; omega⟩
    ⟨256 * b.val + (i 1).val, by have : (i 1).val < 256 := (i 1).isLt; omega⟩

/-- The same place in the 2×256×2×256 view. -/
def spread (i : S256x256.Idx) (p : Fin 2 × Fin 2) : S2x256x2x256.Idx := ValueIdx.ix4 p.1 (i 0) p.2 (i 1)

/-- The view read at the one place is the array read at the other. -/
theorem view_spread {α : Type} (X : S512x512.Idx → α) (i : S256x256.Idx) (p : Fin 2 × Fin 2) :
    shapeCast S2x256x2x256 X shapeCasts_S512x512_S2x256x2x256 (spread i p) = X (place i p.1 p.2) :=
  shapeCast_apply X shapeCasts_S512x512_S2x256x2x256 (spread i p) (place i p.1 p.2) (by
    rw [Shape.rowMajor_val_two, Shape.rowMajor_val_four]
    show (256 * p.1.val + (i 0).val) * 512 + (256 * p.2.val + (i 1).val) = ((p.1.val * 256 + (i 0).val) * 2 + p.2.val) * 256 + (i 1).val
    omega)

/-- The elements that the sum puts together at `i` are those at `spread i`. -/
theorem dropped_iff (i : S256x256.Idx) (y : S2x256x2x256.Idx) :
    reducesTo_S2x256x2x256_S256x256_d0_2.drop y = i ↔ ∃ p, spread i p = y := by
  have e0 : (reducesTo_S2x256x2x256_S256x256_d0_2.drop y 0).val = (y 1).val :=
    reducesTo_S2x256x2x256_S256x256_d0_2.drop_apply_val_of_eq y 0 1
  have e1 : (reducesTo_S2x256x2x256_S256x256_d0_2.drop y 1).val = (y 3).val :=
    reducesTo_S2x256x2x256_S256x256_d0_2.drop_apply_val_of_eq y 1 3
  constructor
  · rintro rfl
    refine ⟨(y 0, y 2), funext fun a => Fin.ext ?_⟩
    match a with
    | 0 => rfl
    | 1 => exact e0
    | 2 => rfl
    | 3 => exact e1
  · rintro ⟨p, rfl⟩
    refine funext fun a => Fin.ext ?_
    match a with
    | 0 => exact e0
    | 1 => exact e1

theorem spread_inj (i : S256x256.Idx) : Function.Injective (spread i) := fun _ _ h =>
  Prod.ext (congrFun h 0) (congrFun h 2)

/-- The reference's result on a whole array `X`. -/
def result (X : S512x512.Idx → EReal) : S256x256.Idx → EReal :=
  Host.reduceAdd (F := Ideal) (φ := .f32) (shapeCast _ X shapeCasts_S512x512_S2x256x2x256) (constant S_ .f32 0x00000000#32)
    reducesTo_S2x256x2x256_S256x256_d0_2 h_S_

/-- It is the sum of the four blocks. -/
theorem result_apply (X : S512x512.Idx → EReal) (i : S256x256.Idx) :
    result X i = ∑ p : Fin 2 × Fin 2, X (place i p.1 p.2) := by
  unfold result
  rw [hostReduceAdd_apply]
  unfold Ideal.hostReduceAdd
  rw [Finset.sum_filter_eq_sum_of_fiber _ (spread i) (spread_inj i) (dropped_iff i)]
  have z : (constant (F := Ideal) S_ .f32 0x00000000#32 : S_.Idx → EReal) (Shape.Idx.first h_S_) = 0 := by
    show Ideal.ofBits .f32 0x00000000#32 = 0
    simp [Ideal.ofBits, Ideal.ieee]
  rw [z, zero_add]
  exact Finset.sum_congr rfl fun p _ => view_spread X i p

end Cert.ReferenceIdeal.Blocks
-- ==== Proof.Equation.lean ====
/-
# The two sums are the same

Device `c` of the mesh holds block `(c / 2, c % 2)` of the whole array, so the sum over the devices is the sum over the blocks.
-/
module

public import proofs.«01_k».proof.Proof.KernelSum
public import proofs.«01_k».proof.Proof.RefSum
public import Idealize.ShloMosaic.Lib.Layout

@[expose] public section

noncomputable section

namespace Cert.Equation

open Idealize.ShloMosaic Idealize.ShloMosaic.TcCoe
open Cert.ReferenceIdeal.Blocks (place result result_apply)

/-- The devices, as the blocks that they hold. -/
def held : Fin 4 ≃ Fin 2 × Fin 2 where
  toFun c := (⟨c.val / 2, by omega⟩, ⟨c.val % 2, by omega⟩)
  invFun p := ⟨2 * p.1.val + p.2.val, by omega⟩
  left_inv c := Fin.ext (show 2 * (c.val / 2) + c.val % 2 = c.val by omega)
  right_inv p := Prod.ext (Fin.ext (show (2 * p.1.val + p.2.val) / 2 = p.1.val by omega)) (Fin.ext (show (2 * p.1.val + p.2.val) % 2 = p.2.val by omega))

/-- Element `i` of device `c`'s block is the whole array's element at that place. -/
theorem block_place {α : Type} (X : Cert.ReferenceIdeal.S512x512.Idx → α) (c : Fin 4) (i : Cert.ReferenceIdeal.S256x256.Idx) :
    (Layout.blockN ⟨2, ![256, 256]⟩ ⟨2, ![512, 512]⟩ (Layout.meshBlock [2, 2] ![[0], [1]] c) X) i = X (place i (held c).1 (held c).2) := by
  rw [Layout.blockN_apply]
  refine congrArg X (funext fun a => Fin.ext ?_)
  have h : ∀ c : Fin 4, (Layout.meshBlock [2, 2] ![[0], [1]] c (b := 0)).val = c.val / 2 ∧ (Layout.meshBlock [2, 2] ![[0], [1]] c (b := 1)).val = c.val % 2 := by decide
  rw [Layout.TilesN.idx_val]
  match a with
  | 0 => exact (congrArg (fun n => n * 256 + (i 0).val) (h c).1).trans (congrArg (· + (i 0).val) (Nat.mul_comm _ _))
  | 1 => exact (congrArg (fun n => n * 256 + (i 1).val) (h c).2).trans (congrArg (· + (i 1).val) (Nat.mul_comm _ _))

open Cert.KernelIdeal in
/-- If each device holds its block of `X`, every device's result is the reference's result on `X`. -/
theorem outFinal_eq (m : (ℓ : Loc nD τ sig) → Buf (Elt Ideal) ℓ) (ρ : Dev nD → PrngReg) (X : Cert.ReferenceIdeal.S512x512.Idx → EReal)
    (hX : ∀ c : Dev nD, m ((c.tc : Thread nD τ).loc main_arg0) = Layout.blockN ⟨2, ![256, 256]⟩ ⟨2, ![512, 512]⟩ (Layout.meshBlock [2, 2] ![[0], [1]] c) X)
    (c : Dev nD) : Pf.outFinal m ρ c = result X := by
  funext i
  refine (Pf.outFinal_sum m ρ c i).trans ?_
  refine Eq.trans (b := ∑ p : Fin 2 × Fin 2, X (place i p.1 p.2)) ?_ (result_apply X i).symm
  rw [← held.sum_comp fun p => X (place i p.1 p.2)]
  exact Finset.sum_congr rfl fun d _ => (congrFun (hX d) i).trans (block_place X d i)

end Cert.Equation
-- ==== Proof.lean ====
/-
# The claims

The frames of the kernel, at words and over the extended reals, are the one run of Kernel/Result.lean and KernelIdeal/Result.lean
with the values dropped; the reference is a straight line of host operations without semaphores. No operation was rewritten
for the ideal program. The value claim is KernelIdeal/Result.lean's run with Equation.lean: every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel terminates, keeps its argument and leaves every semaphore at zero. -/
theorem frame_kernel : Cert.quiescent_Kernel := fun m ρ _ =>
  (θ_run Cert.Kernel.defs _ _).mono (fun _ h => ⟨fun c => (h.1 c).2, h.2⟩) (Cert.Kernel.Pf.run_value (F := Bits) m ρ)

/-- So does the kernel over the extended reals, -/
theorem frame_ideal : Cert.quiescent_KernelIdeal := fun m ρ _ =>
  (θ_run Cert.KernelIdeal.defs _ _).mono (fun _ h => ⟨fun c => (h.1 c).2, h.2⟩) (Cert.KernelIdeal.Pf.run_value (F := Ideal) m ρ)

/-- and the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends with the reference's result. -/
theorem same_sum : Cert.algebraic_KernelIdeal_ReferenceIdeal := by
  intro m ρ m' ρ' _ hblock
  refine ⟨Cert.ReferenceIdeal.Blocks.result (m' (((0 : Dev Cert.ReferenceIdeal.nD).tc : Thread _ Cert.ReferenceIdeal.τ).loc Cert.ReferenceIdeal.main_arg0)), ?_, ?_⟩
  · exact (θ_run Cert.KernelIdeal.defs _ _).mono
      (fun _ h c => ⟨(h.1 c).1.trans (Cert.Equation.outFinal_eq m ρ _ hblock c), (h.1 c).2⟩) (Cert.KernelIdeal.Pf.run_value (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, same_sum⟩

end Cert.Proof

end
